-- ==== Defs.lean ====
def Pre_Table (m : (ℓ : Loc Cert.Table.nD Cert.Table.τ Cert.Table.sig) → Buf (Elt Bits) ℓ) : Prop :=
  True

def Pre_TableReference (m : (ℓ : Loc Cert.TableReference.nD Cert.TableReference.τ Cert.TableReference.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1)
      ∧ r.2.mem ((c.tc : Thread Cert.Table.nD Cert.Table.τ).loc Cert.Table.main_arg2) = m ((c.tc : Thread Cert.Table.nD Cert.Table.τ).loc Cert.Table.main_arg2))
      ∧ r.2.sem = fun _ => 0)

def quiescent_TableReference [hTableReference : Cert.TableReference.Facts] : Prop :=
  ∀ (m : (ℓ : Loc Cert.TableReference.nD Cert.TableReference.τ Cert.TableReference.sig) → Buf (Elt Bits) ℓ) (g : Dev Cert.TableReference.nD → PrngReg), Pre_TableReference m →
    θ_run (Cert.TableReference.defs (F := Bits)) (onTc (τ := Cert.TableReference.τ) (Cert.TableReference.main (F := Bits))) ⟨m, fun _ => 0, g⟩ (fun r => (∀ c : Dev Cert.TableReference.nD,
      r.2.mem ((c.tc : Thread Cert.TableReference.nD Cert.TableReference.τ).loc Cert.TableReference.main_arg0) = m ((c.tc : Thread Cert.TableReference.nD Cert.TableReference.τ).loc Cert.TableReference.main_arg0)
      ∧ r.2.mem ((c.tc : Thread Cert.TableReference.nD Cert.TableReference.τ).loc Cert.TableReference.main_arg1) = m ((c.tc : Thread Cert.TableReference.nD Cert.TableReference.τ).loc Cert.TableReference.main_arg1)
      ∧ r.2.mem ((c.tc : Thread Cert.TableReference.nD Cert.TableReference.τ).loc Cert.TableReference.main_arg2) = m ((c.tc : Thread Cert.TableReference.nD Cert.TableReference.τ).loc Cert.TableReference.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def bitexact_Table_TableReference [hTable : Cert.Table.Facts] [hTableReference : Cert.TableReference.Facts] : Prop :=
  ∀ (m : (ℓ : Loc Cert.Table.nD Cert.Table.τ Cert.Table.sig) → Buf (Elt Bits) ℓ) (g : Dev Cert.Table.nD → PrngReg)
    (m' : (ℓ : Loc Cert.TableReference.nD Cert.TableReference.τ Cert.TableReference.sig) → Buf (Elt Bits) ℓ) (g' : Dev Cert.TableReference.nD → PrngReg), Pre_Table m →
    (∀ c : Dev Cert.Table.nD,
      m' ((c.tc : Thread Cert.TableReference.nD Cert.TableReference.τ).loc Cert.TableReference.main_arg0) = m ((c.tc : Thread Cert.Table.nD Cert.Table.τ).loc Cert.Table.main_arg0)
      ∧ m' ((c.tc : Thread Cert.TableReference.nD Cert.TableReference.τ).loc Cert.TableReference.main_arg1) = m ((c.tc : Thread Cert.Table.nD Cert.Table.τ).loc Cert.Table.main_arg1)
      ∧ m' ((c.tc : Thread Cert.TableReference.nD Cert.TableReference.τ).loc Cert.TableReference.main_arg2) = m ((c.tc : Thread Cert.Table.nD Cert.Table.τ).loc Cert.Table.main_arg2)) →
    ∃ (v0 : (c : Dev Cert.Table.nD) → Buf (Elt Bits) ((c.tc : Thread Cert.Table.nD Cert.Table.τ).loc Cert.Table.main_v3)),
      θ_run (Cert.Table.defs (F := Bits)) (onTc (τ := Cert.Table.τ) (Cert.Table.main (F := Bits))) ⟨m, fun _ => 0, g⟩ (fun r => ∀ c : Dev Cert.Table.nD,
          r.2.mem ((c.tc : Thread Cert.Table.nD Cert.Table.τ).loc Cert.Table.main_v3) = v0 c
          ∧ r.2.mem ((c.tc : Thread Cert.Table.nD Cert.Table.τ).loc Cert.Table.main_arg0) = m ((c.tc : Thread Cert.Table.nD Cert.Table.τ).loc Cert.Table.main_arg0)
          ∧ r.2.mem ((c.tc : Thread Cert.Table.nD Cert.Table.τ).loc Cert.Table.main_arg1) = m ((c.tc : Thread Cert.Table.nD Cert.Table.τ).loc Cert.Table.main_arg1)
          ∧ r.2.mem ((c.tc : Thread Cert.Table.nD Cert.Table.τ).loc Cert.Table.main_arg2) = m ((c.tc : Thread Cert.Table.nD Cert.Table.τ).loc Cert.Table.main_arg2))
      ∧ θ_run (Cert.TableReference.defs (F := Bits)) (onTc (τ := Cert.TableReference.τ) (Cert.TableReference.main (F := Bits))) ⟨m', fun _ => 0, g'⟩ (fun r => ∀ c : Dev Cert.TableReference.nD,
          r.2.mem ((c.tc : Thread Cert.TableReference.nD Cert.TableReference.τ).loc Cert.TableReference.main_v36) = v0 c
          ∧ r.2.mem ((c.tc : Thread Cert.TableReference.nD Cert.TableReference.τ).loc Cert.TableReference.main_arg0) = m' ((c.tc : Thread Cert.TableReference.nD Cert.TableReference.τ).loc Cert.TableReference.main_arg0)
          ∧ r.2.mem ((c.tc : Thread Cert.TableReference.nD Cert.TableReference.τ).loc Cert.TableReference.main_arg1) = m' ((c.tc : Thread Cert.TableReference.nD Cert.TableReference.τ).loc Cert.TableReference.main_arg1)
          ∧ r.2.mem ((c.tc : Thread Cert.TableReference.nD Cert.TableReference.τ).loc Cert.TableReference.main_arg2) = m' ((c.tc : Thread Cert.TableReference.nD Cert.TableReference.τ).loc Cert.TableReference.main_arg2))

def preserves_Kernel_KernelIdeal : Prop :=
  IdealRules.bf16_pair.PackStatement Cert.KernelIdeal.S512x384
  ∧ IdealRules.bf16_pair.Statement Cert.KernelIdeal.S1024x384 Cert.KernelIdeal.S512x384

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hTable : Cert.Table.Facts) (hTableReference : Cert.TableReference.Facts) (hKernel : Cert.Kernel.Facts) (hKernelIdeal : Cert.KernelIdeal.Facts) (hReferenceIdeal : Cert.ReferenceIdeal.Facts) (hPre_finite : Cert.Pre_finite.Facts),
    quiescent_Table (hTable := hTable)
    ∧ quiescent_TableReference (hTableReference := hTableReference)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ bitexact_Table_TableReference (hTable := hTable) (hTableReference := hTableReference)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S81920x128 : Shape := ⟨2, ![81920, 128]⟩
abbrev S384x48 : Shape := ⟨2, ![384, 48]⟩
abbrev S163840x41 : Shape := ⟨2, ![163840, 41]⟩
abbrev S_ : Shape := ⟨0, ![]⟩

class Facts : Prop where
  bcast_S_S81920x128 : S_.BroadcastsInDim S81920x128 (![] : Fin 0 → Fin S81920x128.rank)

variable [Facts]

def fn {F : FTy → Type} [FloatOps F] (main_arg0 : FVec F S81920x128 .f32) (main_arg1 : IVec S384x48 8) (main_arg2 : FVec F S163840x41 .bf16) : IVec S81920x128 1 :=
  let main_v0 : FVec F S81920x128 .f32 := Host.absf main_arg0
  let main_cst : FVec F S_ .f32 := constant S_ .f32 0x7F800000#32
  let main_v1 : FVec F S81920x128 .f32 := broadcastInDim S81920x128 ![] bcast_S_S81920x128 main_cst
  let main_v2 : IVec S81920x128 1 := cmpf .olt main_v0 main_v1
  main_v2
-- ==== Table.lean ====
abbrev S40960x48 : Shape := ⟨2, ![40960, 48]⟩
abbrev S163840 : Shape := ⟨1, ![163840]⟩
abbrev S48x40960 : Shape := ⟨2, ![48, 40960]⟩
abbrev S1280x128 : Shape := ⟨2, ![1280, 128]⟩
abbrev S10240x128 : Shape := ⟨2, ![10240, 128]⟩
abbrev S48x4096 : Shape := ⟨2, ![48, 4096]⟩
abbrev S128x128 : Shape := ⟨2, ![128, 128]⟩
abbrev S1024x128 : Shape := ⟨2, ![1024, 128]⟩
abbrev S12x128 : Shape := ⟨2, ![12, 128]⟩
abbrev S48x128 : Shape := ⟨2, ![48, 128]⟩
abbrev S12x128x1 : Shape := ⟨3, ![12, 128, 1]⟩
abbrev S3x128 : Shape := ⟨2, ![3, 128]⟩
abbrev S1x128 : Shape := ⟨2, ![1, 128]⟩

abbrev nBuf : Space → Nat
  | .hbm => 7
  | .vmem => 8
  | .smem => 0
  | _ => 0

abbrev bufTy : (tb : Table) → Fin (tcTables nBuf tb) → BufTy
  | .hbm, ⟨0, _⟩ => ⟨S40960x48, .i8⟩
  | .hbm, ⟨1, _⟩ => ⟨S163840, .f32⟩
  | .hbm, ⟨2, _⟩ => ⟨S163840, .f32⟩
  | .hbm, ⟨3, _⟩ => ⟨S48x40960, .i8⟩
  | .hbm, ⟨4, _⟩ => ⟨S1280x128, .f32⟩
  | .hbm, ⟨5, _⟩ => ⟨S1280x128, .f32⟩
  | .hbm, ⟨6, _⟩ => ⟨S10240x128, .i32⟩
  | .local _ .vmem, ⟨0, _⟩ => ⟨S48x4096, .i8⟩
  | .local _ .vmem, ⟨1, _⟩ => ⟨S48x4096, .i8⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1024x128, .i32⟩
  | .local _ .vmem, ⟨7, _⟩ => ⟨S1024x128, .i32⟩
  | _, _ => ⟨S40960x48, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S48x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TableReference.lean ====
abbrev S40960x48 : Shape := ⟨2, ![40960, 48]⟩
abbrev S163840 : Shape := ⟨1, ![163840]⟩
abbrev S4 : Shape := ⟨1, ![4]⟩
abbrev S_ : Shape := ⟨0, ![]⟩
abbrev S40960x1x48 : Shape := ⟨3, ![40960, 1, 48]⟩
abbrev S1x4x1 : Shape := ⟨3, ![1, 4, 1]⟩
abbrev S40960x4x48 : Shape := ⟨3, ![40960, 4, 48]⟩
abbrev S163840x4x3x4 : Shape := ⟨4, ![163840, 4, 3, 4]⟩
abbrev S163840x3x4x4 : Shape := ⟨4, ![163840, 3, 4, 4]⟩
abbrev S163840x3x16 : Shape := ⟨3, ![163840, 3, 16]⟩
abbrev S16 : Shape := ⟨1, ![16]⟩
abbrev S1x1x16 : Shape := ⟨3, ![1, 1, 16]⟩
abbrev S163840x3 : Shape := ⟨2, ![163840, 3]⟩
abbrev S163840x1 : Shape := ⟨2, ![163840, 1]⟩
abbrev S163840x8 : Shape := ⟨2, ![163840, 8]⟩
abbrev S80x16x128x8 : Shape := ⟨4, ![80, 16, 128, 8]⟩
abbrev S80x128x16x8 : Shape := ⟨4, ![80, 128, 16, 8]⟩
abbrev S10240x128 : Shape := ⟨2, ![10240, 128]⟩

abbrev nBuf : Space → Nat
  | .hbm => 48
  | .vmem => 0
  | .smem => 0
  | _ => 0

abbrev bufTy : (tb : Table) → Fin (tcTables nBuf tb) → BufTy
  | .hbm, ⟨0, _⟩ => ⟨S40960x48, .i8⟩
  | .hbm, ⟨1, _⟩ => ⟨S163840, .f32⟩
  | .hbm, ⟨2, _⟩ => ⟨S163840, .f32⟩
  | .hbm, ⟨3, _⟩ => ⟨S40960x48, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S40960x1x48, .i32⟩
  | .hbm, ⟨9, _⟩ => ⟨S1x4x1, .i32⟩
  | .hbm, ⟨10, _⟩ => ⟨S40960x4x48, .i32⟩
  | .hbm, ⟨11, _⟩ => ⟨S40960x4x48, .i32⟩
  | .hbm, ⟨12, _⟩ => ⟨S40960x4x48, .i32⟩
  | .hbm, ⟨13, _⟩ => ⟨S_, .i32⟩
  | .hbm, ⟨14, _⟩ => ⟨S40960x4x48, .i32⟩
  | .hbm, ⟨15, _⟩ => ⟨S40960x4x48, .i32⟩
  | .hbm, ⟨16, _⟩ => ⟨S163840x4x3x4, .i32⟩
  | .hbm, ⟨17, _⟩ => ⟨S163840x3x4x4, .i32⟩
  | .hbm, ⟨18, _⟩ => ⟨S163840x3x16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S1x1x16, .i32⟩
  | .hbm, ⟨34, _⟩ => ⟨S163840x3x16, .i32⟩
  | .hbm, ⟨35, _⟩ => ⟨S163840x3x16, .i32⟩
  | .hbm, ⟨36, _⟩ => ⟨S_, .i32⟩
  | .hbm, ⟨37, _⟩ => ⟨S163840x3, .i32⟩
  | .hbm, ⟨38, _⟩ => ⟨S163840, .i32⟩
  | .hbm, ⟨39, _⟩ => ⟨S163840, .i32⟩
  | .hbm, ⟨40, _⟩ => ⟨S163840x1, .i32⟩
  | .hbm, ⟨41, _⟩ => ⟨S163840x1, .i32⟩
  | .hbm, ⟨42, _⟩ => ⟨S_, .i32⟩
  | .hbm, ⟨43, _⟩ => ⟨S163840x3, .i32⟩
  | .hbm, ⟨44, _⟩ => ⟨S163840x8, .i32⟩
  | .hbm, ⟨45, _⟩ => ⟨S80x16x128x8, .i32⟩
  | .hbm, ⟨46, _⟩ => ⟨S80x128x16x8, .i32⟩
  | .hbm, ⟨47, _⟩ => ⟨S10240x128, .i32⟩
  | _, _ => ⟨S40960x48, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [BitOps F]
-- ==== Kernel.lean ====
abbrev S81920x128 : Shape := ⟨2, ![81920, 128]⟩
abbrev S384x48 : Shape := ⟨2, ![384, 48]⟩
abbrev S163840x41 : Shape := ⟨2, ![163840, 41]⟩
abbrev S48 : Shape := ⟨1, ![48]⟩
abbrev S48x384 : Shape := ⟨2, ![48, 384]⟩
abbrev S_ : Shape := ⟨0, ![]⟩
abbrev S48x1 : Shape := ⟨2, ![48, 1]⟩
abbrev S384 : Shape := ⟨1, ![384]⟩
abbrev S1x384 : Shape := ⟨2, ![1, 384]⟩
abbrev S16x384 : Shape := ⟨2, ![16, 384]⟩
abbrev S64x384 : Shape := ⟨2, ![64, 384]⟩
abbrev S32x384 : Shape := ⟨2, ![32, 384]⟩
abbrev S256x384 : Shape := ⟨2, ![256, 384]⟩
abbrev S41x163840 : Shape := ⟨2, ![41, 163840]⟩
abbrev S41x384 : Shape := ⟨2, ![41, 384]⟩
abbrev S163840x384 : Shape := ⟨2, ![163840, 384]⟩
abbrev S512x128 : Shape := ⟨2, ![512, 128]⟩
abbrev S41x1024 : Shape := ⟨2, ![41, 1024]⟩
abbrev S1024x384 : Shape := ⟨2, ![1024, 384]⟩
abbrev S1x128 : Shape := ⟨2, ![1, 128]⟩
abbrev S512x256 : Shape := ⟨2, ![512, 256]⟩
abbrev S512x384 : Shape := ⟨2, ![512, 384]⟩

abbrev nBuf : Space → Nat
  | .hbm => 35
  | .vmem => 8
  | .smem => 0
  | _ => 0

abbrev bufTy : (tb : Table) → Fin (tcTables nBuf tb) → BufTy
  | .hbm, ⟨0, _⟩ => ⟨S81920x128, .f32⟩
  | .hbm, ⟨1, _⟩ => ⟨S384x48, .i8⟩
  | .hbm, ⟨2, _⟩ => ⟨S163840x41, .bf16⟩
  | .hbm, ⟨3, _⟩ => ⟨S48, .i32⟩
  | .hbm, ⟨4, _⟩ => ⟨S48, .i1⟩
  | .hbm, ⟨5, _⟩ => ⟨S48, .f32⟩
  | .hbm, ⟨6, _⟩ => ⟨S48x384, .i8⟩
  | .hbm, ⟨7, _⟩ => ⟨S48x384, .i32⟩
  | .hbm, ⟨8, _⟩ => ⟨S48x384, .f32⟩
  | .hbm, ⟨9, _⟩ => ⟨S_, .i32⟩
  | .hbm, ⟨10, _⟩ => ⟨S48, .i32⟩
  | .hbm, ⟨11, _⟩ => ⟨S48, .i32⟩
  | .hbm, ⟨12, _⟩ => ⟨S48, .i32⟩
  | .hbm, ⟨13, _⟩ => ⟨S48x1, .i32⟩
  | .hbm, ⟨14, _⟩ => ⟨S48x384, .f32⟩
  | .hbm, ⟨15, _⟩ => ⟨S48x1, .f32⟩
  | .hbm, ⟨16, _⟩ => ⟨S48x384, .f32⟩
  | .hbm, ⟨17, _⟩ => ⟨S48x384, .f32⟩
  | .hbm, ⟨18, _⟩ => ⟨S_, .f32⟩
  | .hbm, ⟨19, _⟩ => ⟨S384, .f32⟩
  | .hbm, ⟨20, _⟩ => ⟨S1x384, .f32⟩
  | .hbm, ⟨21, _⟩ => ⟨S1x384, .bf16⟩
  | .hbm, ⟨22, _⟩ => ⟨S1x384, .f32⟩
  | .hbm, ⟨23, _⟩ => ⟨S1x384, .f32⟩
  | .hbm, ⟨24, _⟩ => ⟨S16x384, .f32⟩
  | .hbm, ⟨25, _⟩ => ⟨S64x384, .f32⟩
  | .hbm, ⟨26, _⟩ => ⟨S_, .f32⟩
  | .hbm, ⟨27, _⟩ => ⟨S32x384, .f32⟩
  | .hbm, ⟨28, _⟩ => ⟨S32x384, .f32⟩
  | .hbm, ⟨29, _⟩ => ⟨S64x384, .f32⟩
  | .hbm, ⟨30, _⟩ => ⟨S256x384, .f32⟩
  | .hbm, ⟨31, _⟩ => ⟨S256x384, .bf16⟩
  | .hbm, ⟨32, _⟩ => ⟨S41x163840, .bf16⟩
  | .hbm, ⟨33, _⟩ => ⟨S41x384, .f32⟩
  | .hbm, ⟨34, _⟩ => ⟨S163840x384, .bf16⟩
  | .local _ .vmem, ⟨0, _⟩ => ⟨S512x128, .f32⟩
  | .local _ .vmem, ⟨1, _⟩ => ⟨S512x128, .f32⟩
  | .local _ .vmem, ⟨2, _⟩ => ⟨S256x384, .bf16⟩
  | .local _ .vmem, ⟨3, _⟩ => ⟨S41x1024, .bf16⟩
  | .local _ .vmem, ⟨4, _⟩ => ⟨S41x1024, .bf16⟩
  | .local _ .vmem, ⟨5, _⟩ => ⟨S41x384, .f32⟩
  | .local _ .vmem, ⟨6, _⟩ => ⟨S1024x384, .bf16⟩
  | .local _ .vmem, ⟨7, _⟩ => ⟨S1024x384, .bf16⟩
  | _, _ => ⟨S81920x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![160], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_15 : BitVec 32 := 0#32
  let v58 : BitVec 1 := Scalar.cmpi .ne v57 c0_i32_15
  v58

def k0_cond2 (i : grid0.Coords) : BitVec 1 :=
  let arg0 : BitVec 32 := BitVec.ofNat 32 (i 0).val
  let c0_i32_16 : BitVec 32 := 0#32
  let v59 : BitVec 1 := Scalar.cmpi .sgt arg0 c0_i32_16
  let v60 : BitVec 32 := Scalar.extui v59
  let c0_i32_17 : BitVec 32 := 0#32
  let v61 : BitVec 1 := Scalar.cmpi .ne v60 c0_i32_17
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S41x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S41x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S81920x128 : Shape := ⟨2, ![81920, 128]⟩
abbrev S384x48 : Shape := ⟨2, ![384, 48]⟩
abbrev S163840x41 : Shape := ⟨2, ![163840, 41]⟩
abbrev S163840x64 : Shape := ⟨2, ![163840, 64]⟩
abbrev S16 : Shape := ⟨1, ![16]⟩
abbrev S_ : Shape := ⟨0, ![]⟩
abbrev S163840x48 : Shape := ⟨2, ![163840, 48]⟩
abbrev S163840x3x16 : Shape := ⟨3, ![163840, 3, 16]⟩
abbrev S1x1x16 : Shape := ⟨3, ![1, 1, 16]⟩
abbrev S163840x3x4x4 : Shape := ⟨4, ![163840, 3, 4, 4]⟩
abbrev S163840x4x3x4 : Shape := ⟨4, ![163840, 4, 3, 4]⟩
abbrev S163840x16 : Shape := ⟨2, ![163840, 16]⟩
abbrev S163840 : Shape := ⟨1, ![163840]⟩
abbrev S163840x1 : Shape := ⟨2, ![163840, 1]⟩
abbrev S163840x49 : Shape := ⟨2, ![163840, 49]⟩
abbrev S384 : Shape := ⟨1, ![384]⟩
abbrev S384x1 : Shape := ⟨2, ![384, 1]⟩
abbrev S384x49 : Shape := ⟨2, ![384, 49]⟩
abbrev S163840x384 : Shape := ⟨2, ![163840, 384]⟩
abbrev S384x41 : Shape := ⟨2, ![384, 41]⟩
abbrev S41x384 : Shape := ⟨2, ![41, 384]⟩

abbrev nBuf : Space → Nat
  | .hbm => 41
  | .vmem => 0
  | .smem => 0
  | _ => 0

abbrev bufTy : (tb : Table) → Fin (tcTables nBuf tb) → BufTy
  | .hbm, ⟨0, _⟩ => ⟨S81920x128, .f32⟩
  | .hbm, ⟨1, _⟩ => ⟨S384x48, .i8⟩
  | .hbm, ⟨2, _⟩ => ⟨S163840x41, .bf16⟩
  | .hbm, ⟨3, _⟩ => ⟨S163840x64, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .f32⟩
  | .hbm, ⟨15, _⟩ => ⟨S163840x48, .f32⟩
  | .hbm, ⟨16, _⟩ => ⟨S163840x3x16, .f32⟩
  | .hbm, ⟨17, _⟩ => ⟨S1x1x16, .f32⟩
  | .hbm, ⟨18, _⟩ => ⟨S163840x3x16, .f32⟩
  | .hbm, ⟨19, _⟩ => ⟨S163840x3x16, .f32⟩
  | .hbm, ⟨20, _⟩ => ⟨S163840x3x4x4, .f32⟩
  | .hbm, ⟨21, _⟩ => ⟨S163840x4x3x4, .f32⟩
  | .hbm, ⟨22, _⟩ => ⟨S163840x48, .f32⟩
  | .hbm, ⟨23, _⟩ => ⟨S163840x16, .f32⟩
  | .hbm, ⟨24, _⟩ => ⟨S_, .f32⟩
  | .hbm, ⟨25, _⟩ => ⟨S163840, .f32⟩
  | .hbm, ⟨26, _⟩ => ⟨S163840x1, .f32⟩
  | .hbm, ⟨27, _⟩ => ⟨S163840x49, .f32⟩
  | .hbm, ⟨28, _⟩ => ⟨S384x48, .i32⟩
  | .hbm, ⟨29, _⟩ => ⟨S384x48, .f32⟩
  | .hbm, ⟨30, _⟩ => ⟨S_, .f32⟩
  | .hbm, ⟨31, _⟩ => ⟨S384, .f32⟩
  | .hbm, ⟨32, _⟩ => ⟨S384x1, .f32⟩
  | .hbm, ⟨33, _⟩ => ⟨S384x49, .f32⟩
  | .hbm, ⟨34, _⟩ => ⟨S_, .f32⟩
  | .hbm, ⟨35, _⟩ => ⟨S384x49, .f32⟩
  | .hbm, ⟨36, _⟩ => ⟨S384x49, .f32⟩
  | .hbm, ⟨37, _⟩ => ⟨S163840x384, .f32⟩
  | .hbm, ⟨38, _⟩ => ⟨S163840x384, .bf16⟩
  | .hbm, ⟨39, _⟩ => ⟨S384x41, .f32⟩
  | .hbm, ⟨40, _⟩ => ⟨S41x384, .f32⟩
  | _, _ => ⟨S81920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.Block.lean ====
/-
  WHAT ONE GRID POINT'S ROW BLOCK IS. The body takes 512 packed rows (two graph nodes per row, 64 words each) and the
  256-row weight, splits every word into three parts (each part minus its bf16 rounding), places the parts in 256 lanes
  and multiplies. Over the extended reals a rounding changes nothing, so for finite words the second and third parts are
  zero, and each node's row of the block is the plain product of its 64 words with the first 64 rows of the weight.
-/
module

public import proofs.«01_k».proof.Proof.Gen.KernelIdeal.Skeleton
public import Idealize.ShloMosaic.Lib.Pointwise
public import Idealize.ShloMosaic.Lib.KernelVsHost

@[expose] public section

noncomputable section

namespace Cert.KernelIdeal.Block

open Cert.KernelIdeal Cert.KernelIdeal.Gen Idealize.ShloMosaic

/-- The scale the body multiplies by, `48^(-1/2)` rounded to f32. -/
abbrev inv : EReal := Ideal.ofBits .f32 0x3E13CD3A#32

/-- The mask of the first 64 lanes. -/
theorem mask_low (a : Fin 128) : k0_pay4 (ix2 (0 : Fin 1) a) = if a.val < 64 then 1#1 else 0#1 := by
  pointwise [k0_pay4]
  revert a; decide

/-- The mask of the last 16 lanes. -/
theorem mask_high (a : Fin 128) : k0_pay5 (ix2 (0 : Fin 1) a) = if 112 ≤ a.val then 1#1 else 0#1 := by
  pointwise [k0_pay5]
  revert a; decide

variable (x : Vec Ideal S512x128 .f32) (hx : ∀ i, (x i - x i : EReal) = 0)

include hx

/-- The second part of a finite word is zero. -/
theorem rest1 (p : Fin 512) (a : Fin 128) : k0_pay6 x (ix2 p a) = 0 := by
  pointwise [k0_pay6]
  exact hx _

/-- The third part of a finite word is zero. -/
theorem rest2 (p : Fin 512) (a : Fin 128) : k0_pay7 x (ix2 p a) = 0 := by
  pointwise [k0_pay7]
  rw [rest1 x hx]; simp

/-- So is the rotated second part. -/
theorem rest1_rot (p : Fin 512) (a : Fin 128) : k0_pay9 x (ix2 p a) = 0 := by
  pointwise [k0_pay9]
  exact rest1 x hx _ _

omit hx in
/-- The words of a row with its two halves exchanged. -/
theorem swapped (p : Fin 512) (a : Fin 128) : k0_pay8 x (ix2 p a) = x (ix2 p ⟨(a.val + 128 - 64) % 128, Nat.mod_lt _ (by decide)⟩) := by
  pointwise [k0_pay8]

/-- First 128 lanes, second node of each row: its words, then zeros. -/
theorem odd_main (p : Fin 512) (a : Fin 128) : k0_pay12 x (ix2 p a)
    = if a.val < 64 then x (ix2 p ⟨(a.val + 64) % 128, Nat.mod_lt _ (by decide)⟩) else 0 := by
  pointwise [k0_pay12]
  rw [mask_low, swapped, rest1 x hx]
  by_cases h : a.val < 64
  · rw [if_pos h, if_pos h]
    show x _ = x _
    congr 2
  · rw [if_neg h, if_neg h]; rfl

/-- Last 128 lanes, second node of each row: zeros, but for the offset words in the last 16 lanes. -/
theorem odd_rest (p : Fin 512) (a : Fin 128) : k0_pay13 x (ix2 p a) = if 112 ≤ a.val then x (ix2 p a) else 0 := by
  pointwise [k0_pay13]
  rw [mask_low, mask_high, rest2 x hx, rest1_rot x hx]
  by_cases h : a.val < 64
  · rw [if_pos h, if_neg (by omega), if_neg (by omega)]; rfl
  · rw [if_neg h]
    by_cases h' : 112 ≤ a.val
    · rw [if_pos h', if_pos h']; rfl
    · rw [if_neg h', if_neg h']; rfl

/-- The first node of each row: its 64 words times the weight's first 64 rows, scaled. -/
theorem even_row (w : FVec Ideal S256x384 .bf16) (hw : ∀ (l : Fin 256) (d : Fin 384), 240 ≤ l.val → w (ix2 l d) = 0)
    (p : Fin 512) (d : Fin 384) : k0_pay11 x w (ix2 p d)
    = (∑ l : Fin 64, x (ix2 p ⟨l.val, by omega⟩) * w (ix2 ⟨l.val, by omega⟩ d)) * inv := by
  unfold k0_pay11
  pointwise
  have e10 : ∀ i, k0_pay10 w i = w i := fun i => by pointwise [k0_pay10]
  simp only [e10, mask_low, mask_high, rest1 x hx, rest2 x hx, rest1_rot x hx]
  have h2 : ∀ a : Fin 128, Scalar.select (if a.val < 64 then 1#1 else 0#1) (0 : EReal)
      (Scalar.select (if 112 ≤ a.val then 1#1 else 0#1) (k0_pay8 x (ix2 p a)) 0) * w (ix2 ⟨128 + a.val, by omega⟩ d) = 0 := by
    intro a
    by_cases h : 112 ≤ a.val
    · rw [hw _ d (by show 240 ≤ 128 + a.val; omega), mul_zero]
    · rw [if_neg h]
      by_cases h' : a.val < 64
      · rw [if_pos h']; exact zero_mul _
      · rw [if_neg h']; exact zero_mul _
  rw [Finset.sum_eq_zero (fun a _ => h2 a), add_zero, Fin.sum_univ_two_halves 64 64 (by decide)]
  rw [Finset.sum_eq_zero (s := Finset.univ) (f := fun i : Fin 64 => _ * w (ix2 ⟨64 + i.val, _⟩ d)) ?_, add_zero]
  · refine congrArg (· * inv) (Finset.sum_congr rfl fun l _ => ?_)
    rw [if_pos (by exact l.isLt)]; rfl
  · intro l _
    rw [if_neg (by show ¬(64 + l.val < 64); omega)]; exact zero_mul _

/-- THE BLOCK: row `r` (node `r % 2` of packed row `r / 2`), column `d`. -/
theorem block_apply (w : FVec Ideal S256x384 .bf16) (hw : ∀ (l : Fin 256) (d : Fin 384), 240 ≤ l.val → w (ix2 l d) = 0)
    (r : Fin 1024) (d : Fin 384) :
    k0_pay1 (k0_pay10 w) (k0_pay11 x w) (k0_pay12 x) (k0_pay13 x) (ix2 r d)
    = (∑ l : Fin 64, x (ix2 ⟨r.val / 2, by omega⟩ ⟨64 * (r.val % 2) + l.val, by omega⟩) * w (ix2 ⟨l.val, by omega⟩ d)) * inv := by
  have e10 : k0_pay10 w = w := funext fun i => by pointwise [k0_pay10]
  rw [e10]
  pointwise [k0_pay1]
  by_cases h : r.val % 2 = 0
  · rw [if_pos h, even_row x hx w hw]
    refine congrArg (· * inv) (Finset.sum_congr rfl fun l _ => ?_)
    congr 3; apply Fin.ext; show l.val = 64 * (r.val % 2) + l.val; omega
  · rw [if_neg h]
    simp only [odd_main x hx, odd_rest x hx]
    rw [Finset.sum_eq_zero (f := fun a : Fin 128 => _ * w (ix2 ⟨128 + a.val, _⟩ d)) ?_, add_zero, Fin.sum_univ_two_halves 64 64 (by decide)]
    rw [Finset.sum_eq_zero (s := Finset.univ) (f := fun i : Fin 64 => _ * w (ix2 ⟨64 + i.val, _⟩ d)) ?_, add_zero]
    · refine congrArg (· * inv) (Finset.sum_congr rfl fun l _ => ?_)
      rw [if_pos (by exact l.isLt)]
      congr 3; apply Fin.ext; show (l.val + 64) % 128 = 64 * (r.val % 2) + l.val; omega
    · intro l _
      rw [if_neg (by show ¬(64 + l.val < 64); omega)]; exact zero_mul _
    · intro a _
      by_cases h' : 112 ≤ a.val
      · rw [hw _ d (by show 240 ≤ 128 + a.val; omega), mul_zero]
      · rw [if_neg h']; exact zero_mul _

end Cert.KernelIdeal.Block

end
-- ==== Proof.Equation.lean ====
/-
  THE EQUATION over the real numbers: one node's 64 words, times the weight's rows, equal the decoded features times the
  signs. The words hold the features in another order, each in units of a power of four; the weight's rows hold the signs
  in the words' order, divided by the same power of four.
-/
module

public import Idealize.ShloMosaic.Lib.Pointwise
public import Idealize.ShloMosaic.Lib.IdealHost

@[expose] public section

noncomputable section

namespace Cert.Equation

open Idealize.ShloMosaic

/-- A finite sum of reals, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale both programs multiply by: `48^(-1/2)` rounded to f32. -/
def inv : ℝ := 9686330 / 67108864

/-- The constant the kernel multiplies by, as a real number. -/
theorem inv_eq : Ideal.ofBits .f32 0x3E13CD3A#32 = ((inv : ℝ) : EReal) := by
  simp [inv, Ideal.ofBits, Ideal.ieee, -EReal.coe_mul]; norm_num

/-- The feature packed in word `k`. -/
def feat (k : Fin 48) : Fin 48 := ⟨12 * (k.val % 4) + k.val / 4, by omega⟩

/-- The word that holds feature `k`. -/
def pos (k : Fin 48) : Fin 48 := ⟨16 * (k.val / 4 % 3) + 4 * (k.val % 4) + k.val / 12, by omega⟩

/-- The word of a feature holds that feature. -/
theorem feat_pos (k : Fin 48) : feat (pos k) = k := by revert k; decide +kernel
/-- The feature of a word stands at that word. -/
theorem pos_feat (k : Fin 48) : pos (feat k) = k := by revert k; decide +kernel

/-- Words and features correspond one to one. -/
def perm : Fin 48 ≃ Fin 48 := ⟨pos, feat, feat_pos, pos_feat⟩

/-- The unit of word `k`: a power of four below one. -/
def pow4 (k : Fin 48) : ℝ := ((2 : ℝ) ^ (2 * (k.val % 8)))⁻¹

/-- The aggregation of one node in one output dimension as the reference has it: words `X`, signs `s`. -/
def aggregated (X : Fin 64 → ℝ) (s : Fin 48 → ℝ) : ℝ :=
  (∑ k : Fin 48, X ⟨(pos k).val, by have := (pos k).isLt; omega⟩ * pow4 (pos k) * (s k * inv))
    + (∑ i : Fin 16, X ⟨48 + i.val, by omega⟩) * ((∑ k, s k) * inv)

/-- The kernel's form of the same number. -/
theorem aggregated_eq (X : Fin 64 → ℝ) (s : Fin 48 → ℝ) :
    ((∑ k : Fin 48, X ⟨k.val, by omega⟩ * (s (feat k) * pow4 k)) + ∑ i : Fin 16, X ⟨48 + i.val, by omega⟩ * ∑ k, s k) * inv
      = aggregated X s := by
  unfold aggregated
  rw [add_mul, Finset.sum_mul, ← Finset.sum_mul (f := fun i : Fin 16 => X ⟨48 + i.val, by omega⟩), mul_assoc]
  congr 1
  rw [← Equiv.sum_comp perm]
  refine Finset.sum_congr rfl fun k _ => ?_
  show X ⟨(pos k).val, _⟩ * (s (feat (pos k)) * pow4 (pos k)) * inv = _
  rw [feat_pos]
  ring

end Cert.Equation

end
-- ==== Proof.Weights.lean ====
/-
  WHAT THE HOST PREPARES FOR THE CALL. From the sign matrix it builds the 256-row weight: rows 0..47 are the signs of one
  feature each, in the order the packed words come in and divided by the word's power of four; rows 48..63 are the sum of
  the signs; rows 240..255 are that sum minus its bf16 rounding, which over the extended reals is zero. It also transposes
  the output gradient.
-/
module

public import proofs.«01_k».proof.Proof.Gen.KernelIdeal.Frame
public import proofs.«01_k».proof.Proof.Equation
public import Idealize.ShloMosaic.Lib.Pointwise
public import Idealize.ShloMosaic.Lib.StableHlo.ReadAt
public import Idealize.ShloMosaic.Lib.StableHlo.Run
public import Idealize.ShloMosaic.Lib.IdealHost

@[expose] public section

noncomputable section

namespace Cert.KernelIdeal.Weights

open Cert.KernelIdeal Cert.KernelIdeal.Gen Cert.Equation Idealize.ShloMosaic Idealize.ShloMosaic.StableHlo Idealize.ShloMosaic.TcCoe Idealize.SL.Sem

/-- A rank-2 gather of whole rows, one row number per result row, read at `(k, d)`: column `d` of the row whose number
    (read signed, clamped to the operand) is the `k`th. -/
theorem gather_rows (x : FVec Ideal S48x384 .f32) (idx : IVec S48x1 32) (k : Fin 48) (d : Fin 384) :
    Host.gather gather_S48x384_S48x1_S48x384_1_0_n_n_0_1_1384 x idx (ix2 k d)
      = x (ix2 ⟨min (idx (ix2 k 0)).toInt.toNat 47, by omega⟩ d) := by
  unfold Host.gather
  congr 1
  funext a
  refine Fin.ext ?_
  show gather_S48x384_S48x1_S48x384_1_0_n_n_0_1_1384.start (ix2 k d) idx a + gather_S48x384_S48x1_S48x384_1_0_n_n_0_1_1384.batchCoord (ix2 k d) a
      + gather_S48x384_S48x1_S48x384_1_0_n_n_0_1_1384.offCoord (ix2 k d) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S48x384_S48x1_S48x384_1_0_n_n_0_1_1384.startIndexMap from List.mem_singleton.mpr rfl)]
    have hsi : gather_S48x384_S48x1_S48x384_1_0_n_n_0_1_1384.siIdx (ix2 k d)
        ⟨List.idxOf (0 : Fin 2) gather_S48x384_S48x1_S48x384_1_0_n_n_0_1_1384.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl
  · rw [GatherDims.batchCoord_eq_zero _ _ _ (by decide)]
    have hs : gather_S48x384_S48x1_S48x384_1_0_n_n_0_1_1384.start (ix2 k d) idx 1 = 0 := by
      unfold GatherDims.start
      rw [dif_neg (by decide)]
    rw [hs]
    simp only [Nat.zero_add]
    rfl

/-- A rank-1 index is its own position. -/
theorem rowMajor48 (k : Fin 48) : (S48.rowMajor (ix1 k) : Fin 48) = k := by
  exact Fin.ext (Shape.rowMajor_val_one _)

/-- Word `k`'s row number is its feature. -/
theorem row_feat (k : Fin 48) : min (lit0 k).toInt.toNat 47 = (feat k).val := by revert k; decide +kernel

/-- The table of powers of four. -/
theorem lit1_eq (k : Fin 48) : Ideal.ofBits .f32 (lit1 k) = ((pow4 k : ℝ) : EReal) := by
  fin_cases k <;> simp [lit1, pow4, Ideal.ofBits, Ideal.ieee, -EReal.coe_mul] <;> norm_num

variable (m : (ℓ : Loc nD τ sig) → Buf (Elt Ideal) ℓ) (c : Dev nD)

/-- The sign matrix as real numbers: output dimension `d`, feature `k`. -/
def sgn (d : Fin 384) (k : Fin 48) : ℝ := (((m (c, Proc.tc.devRef main_arg1) (ix2 d k) : BitVec 8).toInt : ℤ) : ℝ)

/-- One entry widened to 32 bits and converted. -/
theorem entry (d : Fin 384) (k : Fin 48) :
    (FloatOps.sitofp (F := Ideal) .f32 (BitVec.signExtend 32 (m (c, Proc.tc.devRef main_arg1) (ix2 d k) : BitVec 8)) : EReal)
      = ((sgn m c d k : ℝ) : EReal) := by
  show (((BitVec.signExtend 32 (m (c, Proc.tc.devRef main_arg1) (ix2 d k) : BitVec 8)).toInt : ℝ) : EReal) = _
  rw [BitVec.toInt_signExtend_of_le (by decide)]
  rfl

/-- Rows 0..47 of the weight. -/
theorem row_code (k : Fin 48) (d : Fin 384) :
    (V m c main_v22 (ix2 ⟨k.val, by omega⟩ d) : EReal) = ((sgn m c d (feat k) * pow4 k : ℝ) : EReal) := by
  unfold V
  after_reads_at
  after_reads_at
  rw [dif_pos (show k.val < 64 by omega)]
  refine Eq.trans (congrArg₂ (fun a b : EReal => a * b) ?_ ?_) (EReal.coe_mul (sgn m c d (feat k)) (pow4 k)).symm
  · refine (gather_rows _ _ k d).trans ?_
    refine Eq.trans ?_ (entry m c d (feat k))
    refine Eq.trans (b := (sitofp (F := Ideal) FTy.f32
            (extsi 32 (transpose S48x384 [1, 0] (m (c, Proc.tc.devRef main_arg1)) transposes_S384x48_S48x384_1_0)
              natLt_8_32) (ix2 (feat k) d) : EReal)) ?_ ?_
    · refine congrArg (fun r : Fin 48 => (sitofp (F := Ideal) FTy.f32
            (extsi 32 (transpose S48x384 [1, 0] (m (c, Proc.tc.devRef main_arg1)) transposes_S384x48_S48x384_1_0)
              natLt_8_32) (ix2 r d) : EReal)) (Fin.ext ?_)
      refine Eq.trans ?_ (row_feat k)
      refine congrArg (fun b : BitVec 32 => min b.toInt.toNat 47) ?_
      refine Eq.trans ?_ (congrArg lit0 (rowMajor48 k))
      pointwise
    · pointwise
  · exact (congrArg (fun i => Ideal.ofBits FTy.f32 (lit1 i)) (rowMajor48 k)).trans (lit1_eq k)

/-- Rows 48..63 of the weight. -/
theorem row_offset (k : Fin 16) (d : Fin 384) :
    (V m c main_v22 (ix2 ⟨48 + k.val, by omega⟩ d) : EReal) = ((∑ j, sgn m c d j : ℝ) : EReal) := by
  unfold V
  after_reads_at
  after_reads_at
  rw [dif_pos (show 48 + k.val < 64 by omega), coe_sum]
  exact Finset.sum_congr rfl fun j _ => entry m c d j

/-- Rows 240..255 of the weight. -/
theorem row_rest (l : Fin 256) (d : Fin 384) (hl : 240 ≤ l.val) : (V m c main_v22 (ix2 l d) : EReal) = (0 : EReal) := by
  unfold V
  after_reads_at
  rw [dif_neg (by omega), dif_neg (by omega), dif_neg (by omega)]
  after_reads_at
  rw [dif_neg (by omega)]
  simp only [entry]
  rw [← coe_sum, ← EReal.coe_sub, sub_self, EReal.coe_zero]

/-- The output gradient, transposed. -/
theorem dyT (o : Fin 41) (n : Fin 163840) :
    (V m c main_v23 (ix2 o n) : EReal) = m (c, Proc.tc.devRef main_arg2) (ix2 n o) := by
  unfold V
  after_reads_at

end Cert.KernelIdeal.Weights

end
-- ==== Proof.Points.lean ====
/-
  WHAT EACH GRID POINT LEAVES. Every point stores one row block of the aggregation (`k0_pay1` of its inputs). The gradient
  block is stored at the first point and added to at every later one, so after the last point it holds the sum over the
  160 points of each point's product.
-/
module

public import proofs.«01_k».proof.Proof.Gen.KernelIdeal.Frame
public import proofs.«01_k».proof.Proof.Gen.KernelIdeal.Value
public import Idealize.ShloMosaic.Lib.Pipeline.Value
public import Idealize.ShloMosaic.Lib.Tactic
public import Idealize.ShloMosaic.Lib.Pointwise

@[expose] public section

noncomputable section

namespace Cert.KernelIdeal.Points

open Cert.KernelIdeal Cert.KernelIdeal.Gen Idealize.ShloMosaic Idealize.ShloMosaic.TcCoe Idealize.SL.Sem
open Idealize.ShloMosaic.Pipeline (Dat)

/-- The offset of a block read whole. -/
theorem hz : (![0, 0] : Fin 2 → Nat) = fun _ => 0 := funext fun a => by fin_cases a <;> rfl

/-- The row block one point stores, from its packed rows and the weight. -/
abbrev rows (x : Vec Ideal S512x128 .f32) (w : Vec Ideal S256x384 .bf16) : FVec Ideal S1024x384 .bf16 :=
  k0_pay1 (k0_pay10 w) (k0_pay11 x w) (k0_pay12 x) (k0_pay13 x)

/-- The product one point contributes to the gradient. -/
abbrev prod (x : Vec Ideal S512x128 .f32) (w : Vec Ideal S256x384 .bf16) (y : Vec Ideal S41x1024 .bf16) : FVec Ideal S41x384 .f32 :=
  k0_pay2 (k0_pay10 w) (k0_pay11 x w) (k0_pay12 x) (k0_pay13 x) y

section
variable (c : Dev nD) (i : grid0.Coords) (a1 : Memref sig .tc .vmem S512x128 .f32) (h1 : a1.IsWhole) (a2 : Memref sig .tc .vmem S256x384 .bf16) (h2 : a2.IsWhole)
  (a3 : Memref sig .tc .vmem S41x1024 .bf16) (h3 : a3.IsWhole) (a4 : Memref sig .tc .vmem S41x384 .f32) (h4 : a4.IsWhole) (a5 : Memref sig .tc .vmem S1024x384 .bf16) (h5 : a5.IsWhole)
  (x : Vec Ideal S512x128 .f32) (w : Vec Ideal S256x384 .bf16) (y : Vec Ideal S41x1024 .bf16) (acc : Vec Ideal S41x384 .f32)

/-- First point, row block. -/
theorem first_rows (hc0 : cond0_0 i) (hc1 : ¬cond0_1 i) : out0_A_4 c i a1 h1 a2 h2 a3 h3 a4 h4 a5 h5 hc0 hc1 x w y = rows x w := by
  unfold out0_A_4
  rw [View.read_writes_eq_canon _ _ _ (cover0_A_4 c i a1 h1 a2 h2 a3 h3 a4 h4 a5 h5 hc0 hc1 x w y)]
  unfold kernelRun0_A
  dsimp only
  sl_unfold_words
  rw [View.canon_unit_zero hz]
  simp only [View.readAt_eq_ld, h1.read_unread, h2.read_unread, h3.read_unread, View.ld_unit_zero (S := S512x128) hz, View.ld_unit_zero (S := S256x384) hz, shapeCast_self]

/-- First point, gradient block. -/
theorem first_prod (hc0 : cond0_0 i) (hc1 : ¬cond0_1 i) : out0_A_3 c i a1 h1 a2 h2 a3 h3 a4 h4 a5 h5 hc0 hc1 x w y = prod x w y := by
  unfold out0_A_3
  rw [View.read_writes_eq_canon _ _ _ (cover0_A_3 c i a1 h1 a2 h2 a3 h3 a4 h4 a5 h5 hc0 hc1 x w y)]
  unfold kernelRun0_A
  dsimp only
  sl_unfold_words
  rw [View.canon_unit_zero hz]
  simp only [View.readAt_eq_ld, h1.read_unread, h2.read_unread, h3.read_unread, View.ld_unit_zero (S := S512x128) hz, View.ld_unit_zero (S := S256x384) hz, View.ld_unit_zero (S := S41x1024) hz, shapeCast_self]

/-- Later points, row block. -/
theorem later_rows (hc0 : ¬cond0_0 i) (hc1 : cond0_1 i) : out0_B_4 c i a1 h1 a2 h2 a3 h3 a4 h4 a5 h5 hc0 hc1 x w y acc = rows x w := by
  unfold out0_B_4
  rw [View.read_writes_eq_canon _ _ _ (cover0_B_4 c i a1 h1 a2 h2 a3 h3 a4 h4 a5 h5 hc0 hc1 x w y acc)]
  unfold kernelRun0_B
  dsimp only
  sl_unfold_words
  rw [View.canon_unit_zero hz]
  simp only [View.readAt_eq_ld, h1.read_unread, h2.read_unread, h3.read_unread, View.ld_unit_zero (S := S512x128) hz, View.ld_unit_zero (S := S256x384) hz, shapeCast_self]

/-- Later points, gradient block: what it held plus the point's product. -/
theorem later_prod (hc0 : ¬cond0_0 i) (hc1 : cond0_1 i) : out0_B_3 c i a1 h1 a2 h2 a3 h3 a4 h4 a5 h5 hc0 hc1 x w y acc
    = addf acc (prod x w y) := by
  unfold out0_B_3
  rw [View.read_writes_eq_canon _ _ _ (cover0_B_3 c i a1 h1 a2 h2 a3 h3 a4 h4 a5 h5 hc0 hc1 x w y acc)]
  unfold kernelRun0_B
  dsimp only
  sl_unfold_words
  rw [View.canon_unit_zero hz]
  unfold k0_pay3
  simp only [View.readAt_eq_ld, h1.read_unread, h2.read_unread, h3.read_unread, h4.read_unread, View.ld_unit_zero (S := S512x128) hz, View.ld_unit_zero (S := S256x384) hz, View.ld_unit_zero (S := S41x1024) hz, View.ld_unit_zero (S := S41x384) hz, shapeCast_self]

end

variable (m : (ℓ : Loc nD τ sig) → Buf (Elt Ideal) ℓ) (c : Dev nD)

/-- The row block after any point. -/
theorem outs_rows (t : Fin cfg0.N) : (outsAt0 m c t.val t.isLt).2 = rows (iblk m c 0 t) (iblk m c 1 t) := by
  have hN : cfg0.N = 160 := N_0
  have ht := t.isLt
  by_cases h : t.val = 0
  · have h0 : t.val % 160 = 0 := by omega
    have h1 : ¬1 ≤ t.val := by omega
    rw [outsAt0_A m c t h0 h1]
    dsimp only
    rw [first_rows]
  · have h0 : ¬t.val % 160 = 0 := by omega
    have h1 : 1 ≤ t.val := by omega
    rw [outsAt0_B m c t h0 h1]
    dsimp only
    rw [later_rows]

/-- The gradient block after the first point. -/
theorem outs_prod_first (t : Fin cfg0.N) (h : t.val = 0) : (outsAt0 m c t.val t.isLt).1
    = prod (iblk m c 0 t) (iblk m c 1 t) (iblk m c 2 t) := by
  have h0 : t.val % 160 = 0 := by omega
  have h1 : ¬1 ≤ t.val := by omega
  rw [outsAt0_A m c t h0 h1]
  dsimp only
  rw [first_prod]

/-- The gradient block after a later point. -/
theorem outs_prod_later (t : Fin cfg0.N) (h : 1 ≤ t.val) : (outsAt0 m c t.val t.isLt).1
    = addf (outsAt0 m c (t.val - 1) (Nat.lt_of_le_of_lt (Nat.sub_le _ _) t.isLt)).1 (prod (iblk m c 0 t) (iblk m c 1 t) (iblk m c 2 t)) := by
  have hN : cfg0.N = 160 := N_0
  have ht := t.isLt
  have h0 : ¬t.val % 160 = 0 := by omega
  rw [outsAt0_B m c t h0 h]
  dsimp only
  rw [later_prod]

/-- The gradient block after point `n`: the sum of the first `n + 1` products. -/
theorem outs_prod (o : S41x384.Idx) : ∀ (n : ℕ) (hn : n < cfg0.N), ((outsAt0 m c n hn).1 o : EReal)
    = ∑ t : Fin (n + 1), (prod (iblk m c 0 ⟨t.val, by omega⟩) (iblk m c 1 ⟨t.val, by omega⟩) (iblk m c 2 ⟨t.val, by omega⟩) o : EReal)
  | 0, hn => by
    rw [Fin.sum_univ_one]
    exact congrFun (outs_prod_first m c ⟨0, hn⟩ rfl) o
  | n + 1, hn => by
    rw [Fin.sum_univ_castSucc]
    refine (congrFun (outs_prod_later m c ⟨n + 1, hn⟩ (Nat.le_add_left _ _)) o).trans ?_
    exact congrArg (fun e : EReal => e + (prod (iblk m c 0 ⟨n + 1, hn⟩) (iblk m c 1 ⟨n + 1, hn⟩) (iblk m c 2 ⟨n + 1, hn⟩) o : EReal)) (outs_prod o n (by omega))

/-! ### The input blocks, read off the arrays -/

/-- Which block of packed rows a point reads. -/
theorem idx0 (t : Fin cfg0.N) : win0_0.index t 0 = t.val ∧ win0_0.index t 1 = 0 :=
  (by decide +kernel : ∀ t : Fin grid0.N, win0_0.index t 0 = t.val ∧ win0_0.index t 1 = 0) t
/-- Every point reads the whole weight. -/
theorem idx1 (t : Fin cfg0.N) : win0_1.index t 0 = 0 ∧ win0_1.index t 1 = 0 :=
  (by decide +kernel : ∀ t : Fin grid0.N, win0_1.index t 0 = 0 ∧ win0_1.index t 1 = 0) t
/-- Which columns of the output gradient a point reads. -/
theorem idx2 (t : Fin cfg0.N) : win0_2.index t 0 = 0 ∧ win0_2.index t 1 = t.val :=
  (by decide +kernel : ∀ t : Fin grid0.N, win0_2.index t 0 = 0 ∧ win0_2.index t 1 = t.val) t
/-- Which row block a point writes. -/
theorem idx4 (t : Fin cfg0.N) : win0_4.index t 0 = t.val ∧ win0_4.index t 1 = 0 :=
  (by decide +kernel : ∀ t : Fin grid0.N, win0_4.index t 0 = t.val ∧ win0_4.index t 1 = 0) t

/-- The packed rows of point `t`. -/
theorem blk0 (t : Fin cfg0.N) (p : Fin 512) (l : Fin 128) (h : 512 * t.val + p.val < 81920) :
    (iblk m c 0 t (ix2 p l) : EReal) = m (c, Proc.tc.devRef main_arg0) (ix2 ⟨512 * t.val + p.val, h⟩ l) := by
  have h0 := (idx0 t).1
  have h1 := (idx0 t).2
  unfold iblk
  rw [View.read_apply]
  show (V m c main_arg0 _ : EReal) = _
  rw [V_main_arg0]
  congr 1
  funext a
  apply Fin.ext
  match a with
  | ⟨0, _⟩ => show win0_0.index t 0 * 512 + 1 * p.val = 512 * t.val + p.val; omega
  | ⟨1, _⟩ => show win0_0.index t 1 * 128 + 1 * l.val = l.val; omega

/-- The weight of point `t`: all of it. -/
theorem blk1 (t : Fin cfg0.N) (l : Fin 256) (d : Fin 384) :
    (iblk m c 1 t (ix2 l d) : EReal) = V m c main_v22 (ix2 l d) := by
  have h0 := (idx1 t).1
  have h1 := (idx1 t).2
  unfold iblk
  rw [View.read_apply]
  show (V m c main_v22 _ : EReal) = _
  congr 1
  funext a
  apply Fin.ext
  match a with
  | ⟨0, _⟩ => show win0_1.index t 0 * 256 + 1 * l.val = l.val; omega
  | ⟨1, _⟩ => show win0_1.index t 1 * 384 + 1 * d.val = d.val; omega

/-- The output gradient's columns of point `t`. -/
theorem blk2 (t : Fin cfg0.N) (o : Fin 41) (r : Fin 1024) (h : 1024 * t.val + r.val < 163840) :
    (iblk m c 2 t (ix2 o r) : EReal) = V m c main_v23 (ix2 o ⟨1024 * t.val + r.val, h⟩) := by
  have h0 := (idx2 t).1
  have h1 := (idx2 t).2
  unfold iblk
  rw [View.read_apply]
  show (V m c main_v23 _ : EReal) = _
  congr 1
  funext a
  apply Fin.ext
  match a with
  | ⟨0, _⟩ => show win0_2.index t 0 * 41 + 1 * o.val = o.val; omega
  | ⟨1, _⟩ => show win0_2.index t 1 * 1024 + 1 * r.val = 1024 * t.val + r.val; omega

/-! ### The result arrays -/

/-- The aggregation array after the run: row `1024 t + r` is row `r` of point `t`'s block. -/
theorem final_rows (t : Fin cfg0.N) (r : Fin 1024) (d : Fin 384) (h : 1024 * t.val + r.val < 163840) :
    ((dats m 0 c).arrAt 4 cfg0.N (ix2 ⟨1024 * t.val + r.val, h⟩ d) : EReal) = rows (iblk m c 0 t) (iblk m c 1 t) (ix2 r d) := by
  have h0 := (idx4 t).1
  have h1 := (idx4 t).2
  have e := congrFun (Value.blocks4 m c t (flush0_4 t)) (ix2 r d)
  rw [View.read_apply, Value.flushed4, outs_rows] at e
  refine Eq.trans ?_ e
  show ((dats m 0 c).arrAt 4 cfg0.N _ : EReal) = (dats m 0 c).arrAt 4 cfg0.N _
  congr 1
  funext a
  apply Fin.ext
  match a with
  | ⟨0, _⟩ => show 1024 * t.val + r.val = win0_4.index t 0 * 1024 + 1 * r.val; omega
  | ⟨1, _⟩ => show d.val = win0_4.index t 1 * 384 + 1 * d.val; omega

/-- The last point. -/
abbrev last : Fin cfg0.N := ⟨159, by rw [show cfg0.N = 160 from N_0]; decide⟩

/-- The gradient array after the run. -/
theorem final_prod : (dats m 0 c).arrAt 3 cfg0.N = (outsAt0 m c 159 last.isLt).1 := by
  have hN : cfg0.N = 160 := N_0
  have hz' : (fun a => win0_3.index last a * main_v24_0.ty.shape.size a) = fun _ => 0 := funext fun a => by fin_cases a <;> decide +kernel
  refine (dats m 0 c).arrAt_eq_of_cover 3 ((outsAt0 m c 159 last.isLt).1 : Buf (Elt Ideal) ((c : Thread nD τ).loc main_v24_0)) (fun t hf => ?_) fun i => ⟨last, (flush0_3 last).mpr rfl, ?_⟩
  · obtain rfl : t = last := Fin.ext (by have := (flush0_3 t).mp hf; have := t.isLt; show t.val = 159; omega)
    rw [Value.flushed3]
    exact (Memref.read_access_unit_zero (Elt Ideal) main_v24_0 hz' (fun a => by rw [congrFun hz' a]; simp) _).symm
  · show i ∈ ((View.whole main_v24_0).slice (win0_3.rect last)).set
    rw [View.set_slice_whole, Rect.mem_set_unit]
    intro a
    have h0 : (i 0 : Nat) < 41 := (i 0).isLt
    have h1 : (i 1 : Nat) < 384 := (i 1).isLt
    match a with
    | ⟨0, _⟩ => show win0_3.index last 0 * win0_3.size 0 ≤ (i 0 : Nat) ∧ (i 0 : Nat) < win0_3.index last 0 * win0_3.size 0 + win0_3.xsize (grid0.coords last) 0
                rw [show win0_3.index last 0 * win0_3.size 0 = 0 from by decide +kernel, show win0_3.xsize (grid0.coords last) 0 = 41 from by decide +kernel]; omega
    | ⟨1, _⟩ => show win0_3.index last 1 * win0_3.size 1 ≤ (i 1 : Nat) ∧ (i 1 : Nat) < win0_3.index last 1 * win0_3.size 1 + win0_3.xsize (grid0.coords last) 1
                rw [show win0_3.index last 1 * win0_3.size 1 = 0 from by decide +kernel, show win0_3.xsize (grid0.coords last) 1 = 384 from by decide +kernel]; omega

end Cert.KernelIdeal.Points

end
-- ==== Proof.Reference.lean ====
/-
  WHAT THE REFERENCE COMPUTES, entry by entry: the aggregation of node `n` in output dimension `d` is the sum over the 48
  features of (the feature's word, divided by its unit) times (the scaled sign), plus the sum of the node's 16 offset words
  times the scaled sum of the signs; the gradient is the sum over the nodes of aggregation times output gradient.
-/
module

public import proofs.«01_k».proof.Proof.Gen.ReferenceIdeal.Read
public import proofs.«01_k».proof.Proof.Equation
public import Idealize.ShloMosaic.Lib.Pointwise

@[expose] public section

noncomputable section

namespace Cert.ReferenceIdeal.Entry

open Cert.ReferenceIdeal Cert.ReferenceIdeal.Gen Cert.ReferenceIdeal.Read Cert.Equation Idealize.ShloMosaic Idealize.ShloMosaic.TcCoe Idealize.SL.Sem

variable (x0 : Vec Ideal S81920x128 .f32) (x1 : IVec S384x48 8) (x2 : Vec Ideal S163840x41 .bf16)

/-- The units of the 16 words of a group. -/
theorem unit_word (k : Fin 16) : (val_main_v8 (F := Ideal) (ix1 k) : EReal) = (((2 : ℝ) ^ (2 * (k.val % 8)) : ℝ) : EReal) := by
  pointwise [val_main_v8, val_main_v7, val_main_v6, val_main_v5, val_main_v4, val_main_v3, val_main_v2, val_main_v1, val_main_c, val_main_c_0, val_main_c_1]
  have h : (IntOp.shli ArithUnit.host (1#32) (IntOp.muli (2#32) (IntOp.andi (BitVec.ofNat 32 k.val) 7#32))).toInt = 2 ^ (2 * (k.val % 8)) := by
    revert k; decide +kernel
  show (((IntOp.shli ArithUnit.host (1#32) (IntOp.muli (2#32) (IntOp.andi (BitVec.ofNat 32 k.val) 7#32))).toInt : ℝ) : EReal) = _
  rw [h]
  push_cast
  rfl

/-- One decoded feature of one node. -/
theorem code_word (n : Fin 163840) (k : Fin 48) : (val_main_v16 (F := Ideal) x0 (ix2 n k) : EReal)
    = x0 (ix2 ⟨n.val / 2, by omega⟩ ⟨64 * (n.val % 2) + (pos k).val, by have := (pos k).isLt; omega⟩)
      * ((pow4 (pos k) : ℝ) : EReal) := by
  pointwise [val_main_v16, val_main_v15, val_main_v14, val_main_v13, val_main_v12, val_main_v11, val_main_v10, val_main_v9, val_main_v0]
  rw [unit_word, Ideal.div_coe (by positivity)]
  refine congrArg₂ (fun a b : EReal => a * b) ?_ ?_
  · congr 2
    apply Fin.ext
    show n.val % 2 * 64 + (k.val / 4 % 3 * 16 + (k.val % 4 * 4 + k.val / 12)) = 64 * (n.val % 2) + (16 * (k.val / 4 % 3) + 4 * (k.val % 4) + k.val / 12)
    omega
  · congr 1
    unfold pow4
    rw [one_div]
    congr 3
    show (k.val % 4 * 4 + k.val / 12) % 8 = (16 * (k.val / 4 % 3) + 4 * (k.val % 4) + k.val / 12) % 8
    omega

/-- The offset column of one node. -/
theorem offset_word (n : Fin 163840) : (val_main_v19 (F := Ideal) x0 (ix2 n (0 : Fin 1)) : EReal)
    = ∑ i : Fin 16, x0 (ix2 ⟨n.val / 2, by omega⟩ ⟨64 * (n.val % 2) + (48 + i.val), by omega⟩) := by
  pointwise [val_main_v19, val_main_v18, val_main_v17, val_main_v0, val_main_cst]
  refine Finset.sum_congr rfl fun i _ => ?_
  congr 2
  apply Fin.ext
  show n.val % 2 * 64 + (48 + i.val) = 64 * (n.val % 2) + (48 + i.val)
  omega

/-- The sign matrix as real numbers. -/
def sgn (d : Fin 384) (k : Fin 48) : ℝ := (((x1 (ix2 d k) : BitVec 8).toInt : ℤ) : ℝ)

/-- One entry widened to 32 bits and converted. -/
theorem entry (d : Fin 384) (k : Fin 48) :
    (FloatOps.sitofp (F := Ideal) .f32 (BitVec.signExtend 32 (x1 (ix2 d k) : BitVec 8)) : EReal) = ((sgn x1 d k : ℝ) : EReal) := by
  show (((BitVec.signExtend 32 (x1 (ix2 d k) : BitVec 8)).toInt : ℝ) : EReal) = _
  rw [BitVec.toInt_signExtend_of_le (by decide)]
  rfl

/-- The scaled signs, a feature's column. -/
theorem sign_code (d : Fin 384) (k : Fin 48) : (val_main_v27 (F := Ideal) x1 (ix2 d ⟨k.val, by omega⟩) : EReal)
    = ((sgn x1 d k : ℝ) : EReal) * ((inv : ℝ) : EReal) := by
  pointwise [val_main_v27, val_main_v26, val_main_v25, val_main_v24, val_main_v23, val_main_v22, val_main_v21, val_main_cst_2, val_main_cst_3]
  rw [inv_eq]
  exact congrArg (fun e : EReal => e * ((inv : ℝ) : EReal)) (entry x1 d k)

/-- The scaled signs, the offset's column. -/
theorem sign_offset (d : Fin 384) : (val_main_v27 (F := Ideal) x1 (ix2 d (48 : Fin 49)) : EReal)
    = ((∑ k, sgn x1 d k : ℝ) : EReal) * ((inv : ℝ) : EReal) := by
  pointwise [val_main_v27, val_main_v26, val_main_v25, val_main_v24, val_main_v23, val_main_v22, val_main_v21, val_main_cst_2, val_main_cst_3]
  rw [inv_eq, coe_sum]
  refine congrArg (fun e : EReal => e * ((inv : ℝ) : EReal)) (Finset.sum_congr rfl fun k _ => entry x1 d k)

/-- THE AGGREGATION of finite words, as a real number. -/
theorem agg_apply (X : S81920x128.Idx → ℝ) (hX : ∀ i, (x0 i : EReal) = ((X i : ℝ) : EReal)) (n : Fin 163840) (d : Fin 384) :
    (val_main_v29 (F := Ideal) x0 x1 (ix2 n d) : EReal)
    = ((aggregated (fun l => X (ix2 ⟨n.val / 2, by omega⟩ ⟨64 * (n.val % 2) + l.val, by omega⟩)) (sgn x1 d) : ℝ) : EReal) := by
  pointwise [val_main_v29, val_main_v28, val_main_v20]
  unfold aggregated
  rw [EReal.coe_add, coe_sum]
  refine congrArg₂ (fun a b : EReal => a + b) (Finset.sum_congr rfl fun k _ => ?_) ?_
  · rw [code_word, hX, sign_code]
    push_cast
    rfl
  · rw [Fin.sum_univ_one, offset_word, sign_offset]
    simp only [hX]
    rw [← coe_sum]
    push_cast
    rfl

/-- THE GRADIENT. -/
theorem grad_apply (o : Fin 41) (d : Fin 384) : (val_main_v31 (F := Ideal) x0 x1 x2 (ix2 o d) : EReal)
    = ∑ n : Fin 163840, (val_main_v29 (F := Ideal) x0 x1 (ix2 n d) : EReal) * x2 (ix2 n o) := by
  pointwise [val_main_v31, val_main_v30]

end Cert.ReferenceIdeal.Entry

end
-- ==== Proof.Result.lean ====
/-
  THE TWO RESULTS AGREE. For finite packed words the kernel's aggregation array is the reference's, entry by entry; and the
  gradient, which the kernel sums block by block over the grid, is the reference's sum over all nodes.
-/
module

public import proofs.«01_k».proof.Proof.Block
public import proofs.«01_k».proof.Proof.Weights
public import proofs.«01_k».proof.Proof.Points
public import proofs.«01_k».proof.Proof.Reference
public import proofs.«01_k».proof.Proof.Gen.Pre_finite

@[expose] public section

noncomputable section

namespace Cert.Result

open Cert.KernelIdeal Cert.KernelIdeal.Gen Cert.Equation Idealize.ShloMosaic Idealize.ShloMosaic.TcCoe Idealize.SL.Sem

/-- An extended real whose absolute value is below infinity is a real number. -/
theorem real_of_test (y : EReal) (h : BitVec.ofBool (decide (max y (-y) < (⊤ : EReal))) = 1#1) : ∃ r : ℝ, y = ((r : ℝ) : EReal) := by
  have lt : max y (-y) < (⊤ : EReal) := by
    by_contra hn
    rw [decide_eq_false hn] at h
    exact absurd h (by decide)
  induction y using EReal.rec with
  | bot => simp at lt
  | coe r => exact ⟨r, rfl⟩
  | top => simp at lt

/-- The precondition read at one word: it is a real number. -/
theorem real_of_finite (x0 : Vec Ideal S81920x128 .f32) (x1 : IVec S384x48 8) (x2 : Vec Ideal S163840x41 .bf16)
    (h : Cert.Pre_finite.fn (F := Ideal) x0 x1 x2 = fun _ => 1#1) (i : S81920x128.Idx) : ∃ r : ℝ, (x0 i : EReal) = ((r : ℝ) : EReal) := by
  have e := congrFun h i
  revert e
  pointwise [Cert.Pre_finite.fn]
  intro e
  have top : Ideal.ofBits .f32 0x7F800000#32 = (⊤ : EReal) := by simp [Ideal.ofBits, Ideal.ieee]
  rw [top] at e
  exact real_of_test (x0 i) e

variable (m : (ℓ : Loc nD τ sig) → Buf (Elt Ideal) ℓ) (c : Dev nD)

/-- The packed words a core holds. -/
abbrev words : Vec Ideal S81920x128 .f32 := m (c, Proc.tc.devRef main_arg0)
/-- The sign matrix a core holds. -/
abbrev signs : IVec S384x48 8 := m (c, Proc.tc.devRef main_arg1)
/-- The output gradient a core holds. -/
abbrev grads : Vec Ideal S163840x41 .bf16 := m (c, Proc.tc.devRef main_arg2)

/-- Point `t`'s packed rows. -/
abbrev B0 (t : Fin cfg0.N) : Vec Ideal S512x128 .f32 := iblk m c 0 t
/-- Point `t`'s weight. -/
abbrev B1 (t : Fin cfg0.N) : Vec Ideal S256x384 .bf16 := iblk m c 1 t

variable (X : S81920x128.Idx → ℝ) (hX : ∀ i, (words m c i : EReal) = ((X i : ℝ) : EReal))

include hX

/-- Row `r` of point `t`'s block is the aggregation of node `1024 t + r`. -/
theorem rows_apply (t : Fin cfg0.N) (r : Fin 1024) (d : Fin 384) (h : 1024 * t.val + r.val < 163840) :
    (Points.rows (iblk m c 0 t) (iblk m c 1 t) (ix2 r d) : EReal)
    = (Cert.ReferenceIdeal.Read.val_main_v29 (F := Ideal) (words m c) (signs m c) (ix2 ⟨1024 * t.val + r.val, h⟩ d) : EReal) := by
  have hN : cfg0.N = 160 := N_0
  have ht := t.isLt
  have hx : ∀ i, (B0 m c t i - B0 m c t i : EReal) = 0 := by
    intro i
    have e := (congrArg (fun j => B0 m c t j) (eq_ix2 i)).trans
      ((Points.blk0 m c t (i 0) (i 1) (by have := ValueIdx.idx2_lt0 i; omega)).trans (hX _))
    exact (congrArg (fun y : EReal => y - y) e).trans (by rw [← EReal.coe_sub, sub_self, EReal.coe_zero])
  have hw : ∀ (l : Fin 256) (d : Fin 384), 240 ≤ l.val → (B1 m c t (ix2 l d) : EReal) = (0 : EReal) := by
    intro l d hl
    exact (Points.blk1 m c t l d).trans (Weights.row_rest m c l d hl)
  refine (Block.block_apply (iblk m c 0 t) hx (iblk m c 1 t) hw r d).trans ?_
  rw [Cert.ReferenceIdeal.Entry.agg_apply _ _ X hX, ← aggregated_eq, EReal.coe_mul, ← inv_eq]
  refine congrArg (fun e : EReal => e * Ideal.ofBits .f32 0x3E13CD3A#32) ?_
  have hword : ∀ l : Fin 64, (B0 m c t (ix2 ⟨r.val / 2, by omega⟩ ⟨64 * (r.val % 2) + l.val, by omega⟩) : EReal)
      = ((X (ix2 ⟨(1024 * t.val + r.val) / 2, by omega⟩ ⟨64 * ((1024 * t.val + r.val) % 2) + l.val, by omega⟩) : ℝ) : EReal) := by
    intro l
    refine (Points.blk0 m c t _ _ (by show 512 * t.val + r.val / 2 < 81920; omega)).trans ((hX _).trans ?_)
    congr 2
    funext a
    apply Fin.ext
    match a with
    | ⟨0, _⟩ => show 512 * t.val + r.val / 2 = (1024 * t.val + r.val) / 2; omega
    | ⟨1, _⟩ => show 64 * (r.val % 2) + l.val = 64 * ((1024 * t.val + r.val) % 2) + l.val; omega
  simp only [hword]
  rw [Fin.sum_univ_two_halves 48 16 (by decide), EReal.coe_add, coe_sum, coe_sum]
  refine congrArg₂ (fun a b : EReal => a + b) (Finset.sum_congr rfl fun k _ => ?_) (Finset.sum_congr rfl fun k _ => ?_)
  · rw [EReal.coe_mul]
    exact congrArg (fun e : EReal => _ * e) ((Points.blk1 m c t ⟨k.val, by omega⟩ d).trans (Weights.row_code m c k d))
  · rw [EReal.coe_mul]
    exact congrArg (fun e : EReal => _ * e) ((Points.blk1 m c t ⟨48 + k.val, by omega⟩ d).trans (Weights.row_offset m c k d))

/-- THE AGGREGATION array of the kernel is the reference's. -/
theorem agg_eq : ((dats m 0 c).arrAt 4 cfg0.N : Vec Ideal S163840x384 .bf16)
    = Cert.ReferenceIdeal.Read.val_main_v29 (F := Ideal) (words m c) (signs m c) := by
  have hN : cfg0.N = 160 := N_0
  have key : ∀ (n : Fin 163840) (d : Fin 384), ((dats m 0 c).arrAt 4 cfg0.N (ix2 n d) : EReal)
      = (Cert.ReferenceIdeal.Read.val_main_v29 (F := Ideal) (words m c) (signs m c) (ix2 n d) : EReal) := by
    intro n d
    have ht : n.val / 1024 < cfg0.N := by rw [hN]; omega
    have hn : 1024 * (n.val / 1024) + n.val % 1024 < 163840 := by omega
    have e : n = ⟨1024 * (n.val / 1024) + n.val % 1024, hn⟩ := Fin.ext (by show n.val = 1024 * (n.val / 1024) + n.val % 1024; omega)
    have h := (Points.final_rows m c ⟨n.val / 1024, ht⟩ ⟨n.val % 1024, by omega⟩ d hn).trans
      (rows_apply m c X hX ⟨n.val / 1024, ht⟩ ⟨n.val % 1024, by omega⟩ d hn)
    rw [e]
    exact h
  funext i
  exact (congrArg (fun j => (dats m 0 c).arrAt 4 cfg0.N j) (eq_ix2 i)).trans
    ((key (i 0) (i 1)).trans (congrArg (fun j => Cert.ReferenceIdeal.Read.val_main_v29 (F := Ideal) (words m c) (signs m c) j) (eq_ix2 i)).symm)

omit hX in
/-- One point's product, entry by entry. -/
theorem prod_apply (x : Vec Ideal S512x128 .f32) (w : Vec Ideal S256x384 .bf16) (y : Vec Ideal S41x1024 .bf16) (o : Fin 41) (d : Fin 384) :
    (Points.prod x w y (ix2 o d) : EReal) = ∑ r : Fin 1024, (y (ix2 o r) : EReal) * Points.rows x w (ix2 r d) := by
  unfold Points.prod Points.rows k0_pay2
  generalize (k0_pay1 (k0_pay10 w) (k0_pay11 x w) (k0_pay12 x) (k0_pay13 x) : FVec Ideal S1024x384 .bf16) = z
  pointwise

/-- THE GRADIENT array of the kernel is the reference's. -/
theorem grad_eq : ((dats m 0 c).arrAt 3 cfg0.N : Vec Ideal S41x384 .f32)
    = Cert.ReferenceIdeal.Read.val_main_v31 (F := Ideal) (words m c) (signs m c) (grads m c) := by
  have hN : cfg0.N = 160 := N_0
  have key : ∀ (o : Fin 41) (d : Fin 384), ((outsAt0 m c 159 Points.last.isLt).1 (ix2 o d) : EReal)
      = (Cert.ReferenceIdeal.Read.val_main_v31 (F := Ideal) (words m c) (signs m c) (grads m c) (ix2 o d) : EReal) := by
    intro o d
    refine (Points.outs_prod m c (ix2 o d) 159 Points.last.isLt).trans ?_
    rw [Cert.ReferenceIdeal.Entry.grad_apply]
    refine Eq.trans ?_ (Fin.sum_univ_tiles (N := 163840) 160 1024 rfl _).symm
    refine Finset.sum_congr rfl fun t _ => ?_
    have ht : t.val < cfg0.N := by rw [hN]; omega
    refine (prod_apply (iblk m c 0 ⟨t.val, ht⟩) (iblk m c 1 ⟨t.val, ht⟩) (iblk m c 2 ⟨t.val, ht⟩) o d).trans (Finset.sum_congr rfl fun r _ => ?_)
    have h : 1024 * t.val + r.val < 163840 := by omega
    have e : (⟨t.val * 1024 + r.val, by omega⟩ : Fin 163840) = ⟨1024 * t.val + r.val, h⟩ := Fin.ext (by show t.val * 1024 + r.val = 1024 * t.val + r.val; omega)
    rw [e, mul_comm]
    refine congrArg₂ (fun a b : EReal => a * b) (rows_apply m c X hX ⟨t.val, ht⟩ r d h) ?_
    exact (Points.blk2 m c ⟨t.val, ht⟩ o r h).trans (Weights.dyT m c o ⟨1024 * t.val + r.val, h⟩)
  rw [Points.final_prod]
  funext i
  exact (congrArg (fun j => (outsAt0 m c 159 Points.last.isLt).1 j) (eq_ix2 i)).trans
    ((key (i 0) (i 1)).trans (congrArg (fun j => Cert.ReferenceIdeal.Read.val_main_v31 (F := Ideal) (words m c) (signs m c) (grads m c) j) (eq_ix2 i)).symm)

end Cert.Result

end
-- ==== Proof.TableBits.lean ====
/-
  THE WORD OF CODES, BIT BY BIT. A word of a node's row holds sixteen codes of two bits. The reference adds sixteen codes, each
  shifted to its place; the kernel takes four 32-bit words (four bytes each), shifts each by the node's place in its byte, keeps
  two bits of every byte, and joins the four results. Both have the same thirty-two bits.
-/
module

public import Idealize.ShloMosaic.PureOps.Reduce
public import Mathlib.Tactic.IntervalCases

@[expose] public section

namespace Cert.TableBits

open Idealize.ShloMosaic

/-- One code as the reference reads it: the byte's two bits from bit `s` on, moved to bit `p`. -/
def code (B : BitVec 8) (s p : BitVec 32) : BitVec 32 :=
  IntOp.shli .host (IntOp.andi (IntOp.shrsi .host (B.setWidth 32) s) 3#32) p

/-- Where code `i` of a word stands. -/
def place (i : Nat) : Nat := 8 * (i % 4) + 2 * (i / 4)

/-- Word `j` of the row of a node that is `s`-th in its bytes: feature `12 q + 4 j + b` at bit `8 b + 2 q`. -/
def packWord (B : Fin 48 → BitVec 8) (j : Fin 3) (s : Fin 4) : BitVec 32 :=
  (Finset.univ : Finset (Fin 16)).fold IntOp.addi 0#32 fun i =>
    code (B ⟨12 * (i.val / 4) + 4 * j.val + i.val % 4, by omega⟩) (BitVec.ofNat 32 (2 * s.val)) (BitVec.ofNat 32 (place i.val))

/-- The bits of the number three. -/
theorem three_bit (k : Nat) : (3#32 : BitVec 32).getLsbD k = decide (k < 2) := by
  by_cases h : k < 32
  · interval_cases k <;> rfl
  · rw [BitVec.getLsbD_of_ge _ _ (by omega)]
    simp; omega

/-- The bits of a code: two, at its place. -/
theorem code_bit (B : BitVec 8) (s p t : Nat) (hs : s ≤ 6) (hp : p < 32) (ht : t < 32) :
    (code B (BitVec.ofNat 32 s) (BitVec.ofNat 32 p)).getLsbD t = (decide (p ≤ t ∧ t < p + 2) && B.getLsbD (s + (t - p))) := by
  have es : (BitVec.ofNat 32 s).toNat = s := by rw [BitVec.toNat_ofNat]; exact Nat.mod_eq_of_lt (by omega)
  have ep : (BitVec.ofNat 32 p).toNat = p := by rw [BitVec.toNat_ofNat]; exact Nat.mod_eq_of_lt (by omega)
  unfold code IntOp.shli IntOp.andi IntOp.shrsi
  rw [if_pos (by omega), if_pos (by omega), BitVec.shiftLeft_eq', BitVec.sshiftRight', es, ep, BitVec.getLsbD_shiftLeft,
    BitVec.getLsbD_and, three_bit, BitVec.getLsbD_sshiftRight]
  by_cases h1 : p ≤ t
  · by_cases h2 : t < p + 2
    · have h3 : t - p < 2 := by omega
      have h4 : s + (t - p) < 32 := by omega
      simp [h1, h2, h3, h4, ht, show ¬ 32 ≤ t - p by omega, show ¬ t < p by omega]
    · have h3 : ¬ t - p < 2 := by omega
      simp [h2, h3]
  · simp [h1, show t < p by omega]

/-- Words without a common bit add to their join. -/
theorem foldr_add (L : List (BitVec 32)) (h : L.Pairwise fun a b => a &&& b = 0#32) :
    L.foldr IntOp.addi 0#32 = L.foldr (· ||| ·) 0#32
      ∧ ∀ a : BitVec 32, (∀ b ∈ L, a &&& b = 0#32) → a &&& L.foldr (· ||| ·) 0#32 = 0#32 := by
  induction L with
  | nil => exact ⟨rfl, fun a _ => by simp⟩
  | cons x L ih =>
    obtain ⟨hx, hL⟩ := List.pairwise_cons.mp h
    obtain ⟨e, d⟩ := ih hL
    refine ⟨?_, fun a ha => ?_⟩
    · rw [List.foldr_cons, List.foldr_cons, e]
      exact BitVec.add_eq_or_of_and_eq_zero _ _ (d x hx)
    · rw [List.foldr_cons, BitVec.and_or_distrib_left, ha x (by simp), d a fun b hb => ha b (by simp [hb])]
      rfl

/-- A bit of a join is set when one of the joined words has it. -/
theorem foldr_or_bit (L : List (BitVec 32)) (t : Nat) : (L.foldr (· ||| ·) 0#32).getLsbD t = L.any (·.getLsbD t) := by
  induction L with
  | nil => simp
  | cons x L ih => rw [List.foldr_cons, BitVec.getLsbD_or, ih, List.any_cons]

/-- A sum over the sixteen is the sum along the list of them. -/
theorem fold_univ (F : Fin 16 → BitVec 32) :
    (Finset.univ : Finset (Fin 16)).fold IntOp.addi 0#32 F = ((List.finRange 16).map F).foldr IntOp.addi 0#32 := rfl

/-- The bits of a word of codes. -/
theorem packWord_bit (B : Fin 48 → BitVec 8) (j : Fin 3) (s : Fin 4) (t : Nat) (ht : t < 32) :
    (packWord B j s).getLsbD t = (B ⟨12 * (t % 8 / 2) + 4 * j.val + t / 8, by omega⟩).getLsbD (2 * s.val + t % 2) := by
  unfold packWord
  rw [fold_univ, (foldr_add _ ?_).1, foldr_or_bit]
  · rw [Bool.eq_iff_iff, List.any_eq_true]
    constructor
    · rintro ⟨w, hw, hb⟩
      obtain ⟨i, -, rfl⟩ := List.mem_map.mp hw
      rw [code_bit _ _ _ _ (by omega) (by unfold place; omega) ht, Bool.and_eq_true, decide_eq_true_eq] at hb
      obtain ⟨hr, hb⟩ := hb
      unfold place at hr hb
      have e1 : i.val / 4 = t % 8 / 2 := by omega
      have e2 : i.val % 4 = t / 8 := by omega
      have e3 : t - (8 * (i.val % 4) + 2 * (i.val / 4)) = t % 2 := by omega
      rw [e3] at hb
      simp only [e1, e2] at hb
      exact hb
    · intro hb
      refine ⟨_, List.mem_map.mpr ⟨⟨4 * (t % 8 / 2) + t / 8, by omega⟩, List.mem_finRange _, rfl⟩, ?_⟩
      have e1 : (4 * (t % 8 / 2) + t / 8) / 4 = t % 8 / 2 := by omega
      have e2 : (4 * (t % 8 / 2) + t / 8) % 4 = t / 8 := by omega
      have e3 : t - (8 * (t / 8) + 2 * (t % 8 / 2)) = t % 2 := by omega
      rw [code_bit _ _ _ _ (by omega) (by unfold place; simp only [e1, e2]; omega) ht]
      simp only [place, e1, e2, e3]
      rw [hb, Bool.and_true, decide_eq_true_eq]
      omega
  · refine List.Pairwise.map _ (R := (· ≠ ·)) (fun a b hab => ?_) (List.nodup_finRange 16)
    apply BitVec.eq_of_getLsbD_eq
    intro t ht
    have hne : a.val ≠ b.val := fun h => hab (Fin.ext h)
    rw [BitVec.getLsbD_and, code_bit _ _ _ _ (by omega) (by unfold place; omega) ht,
      code_bit _ _ _ _ (by omega) (by unfold place; omega) ht, BitVec.getLsbD_zero]
    unfold place
    by_cases ha : 8 * (a.val % 4) + 2 * (a.val / 4) ≤ t ∧ t < 8 * (a.val % 4) + 2 * (a.val / 4) + 2
    · have hb : ¬ (8 * (b.val % 4) + 2 * (b.val / 4) ≤ t ∧ t < 8 * (b.val % 4) + 2 * (b.val / 4) + 2) := by omega
      simp [hb]
    · simp [ha]

/-- What the kernel keeps of one 32-bit word. -/
def kept (w s : BitVec 32) : BitVec 32 := IntOp.andi (IntOp.shrsi .vector w s) 50529027#32

/-- The bits the kernel keeps: the low two of every byte. -/
theorem mask_bit (k : Nat) (h : k < 32) : (50529027#32 : BitVec 32).getLsbD k = decide (k % 8 < 2) := by
  interval_cases k <;> rfl

/-- Its bits: of each byte the two from bit `s` on. -/
theorem kept_bit (w : BitVec 32) (s t : Nat) (hs : s ≤ 6) (ht : t < 32) :
    (kept w (BitVec.ofNat 32 s)).getLsbD t = (decide (t % 8 < 2) && w.getLsbD (s + t)) := by
  have es : (BitVec.ofNat 32 s).toNat = s := by rw [BitVec.toNat_ofNat]; exact Nat.mod_eq_of_lt (by omega)
  unfold kept IntOp.andi IntOp.shrsi
  rw [if_pos (by omega), BitVec.sshiftRight', es, BitVec.getLsbD_and, mask_bit t ht, BitVec.getLsbD_sshiftRight]
  by_cases h : t % 8 < 2
  · simp [h, show ¬ 32 ≤ t by omega, show s + t < 32 by omega]
  · simp [h]

/-- The same moved up by `p` bits. -/
theorem kept_shift_bit (w : BitVec 32) (s p t : Nat) (hs : s ≤ 6) (hp : p < 8) (ht : t < 32) :
    (IntOp.shli .vector (kept w (BitVec.ofNat 32 s)) (BitVec.ofNat 32 p)).getLsbD t
      = (decide (p ≤ t) && (decide ((t - p) % 8 < 2) && w.getLsbD (s + (t - p)))) := by
  have ep : (BitVec.ofNat 32 p).toNat = p := by rw [BitVec.toNat_ofNat]; exact Nat.mod_eq_of_lt (by omega)
  unfold IntOp.shli
  rw [if_pos (by omega), BitVec.shiftLeft_eq', ep, BitVec.getLsbD_shiftLeft, kept_bit _ _ _ hs (by omega)]
  by_cases h : p ≤ t
  · simp [h, ht, show ¬ t < p by omega]
  · simp [h, show t < p by omega]

/-- The kernel's join of four words is the word of codes, if the four words hold the bytes of its features. -/
theorem join_eq (B : Fin 48 → BitVec 8) (j : Fin 3) (s : Fin 4) (w : Fin 4 → BitVec 32)
    (hw : ∀ (q : Fin 4) (t : Nat) (ht : t < 32),
      (w q).getLsbD t = (B ⟨12 * q.val + 4 * j.val + t / 8, by omega⟩).getLsbD (t % 8)) :
    IntOp.ori (IntOp.ori (IntOp.ori (kept (w 0) (BitVec.ofNat 32 (2 * s.val)))
      (IntOp.shli .vector (kept (w 1) (BitVec.ofNat 32 (2 * s.val))) 2#32))
      (IntOp.shli .vector (kept (w 2) (BitVec.ofNat 32 (2 * s.val))) 4#32))
      (IntOp.shli .vector (kept (w 3) (BitVec.ofNat 32 (2 * s.val))) 6#32) = packWord B j s := by
  apply BitVec.eq_of_getLsbD_eq
  intro t ht
  have hs : 2 * s.val ≤ 6 := by omega
  rw [packWord_bit B j s t ht]
  simp only [IntOp.ori, BitVec.getLsbD_or]
  rw [kept_bit _ _ _ hs ht, kept_shift_bit _ _ 2 _ hs (by omega) ht, kept_shift_bit _ _ 4 _ hs (by omega) ht,
    kept_shift_bit _ _ 6 _ hs (by omega) ht]
  have key : ∀ q : Fin 4, t % 8 / 2 = q.val → (w q).getLsbD (2 * s.val + (t - 2 * q.val))
      = (B ⟨12 * (t % 8 / 2) + 4 * j.val + t / 8, by omega⟩).getLsbD (2 * s.val + t % 2) := fun q hq => by
    have e1 : (2 * s.val + (t - 2 * q.val)) / 8 = t / 8 := by omega
    have e2 : (2 * s.val + (t - 2 * q.val)) % 8 = 2 * s.val + t % 2 := by omega
    rw [hw q _ (by omega)]
    simp only [e1, e2, hq]
  have hc : t % 8 / 2 = 0 ∨ t % 8 / 2 = 1 ∨ t % 8 / 2 = 2 ∨ t % 8 / 2 = 3 := by omega
  rcases hc with h | h | h | h
  · have k := key 0 h
    rw [← k]
    simp [show t % 8 < 2 by omega, show ¬ (t - 2) % 8 < 2 ∨ ¬ 2 ≤ t by omega, show ¬ (2 ≤ t ∧ (t - 2) % 8 < 2) by omega,
      show ¬ (4 ≤ t ∧ (t - 4) % 8 < 2) by omega, show ¬ (6 ≤ t ∧ (t - 6) % 8 < 2) by omega, ← Bool.and_assoc, ← Bool.decide_and]
  · have k := key 1 h
    rw [← k]
    simp [show ¬ t % 8 < 2 by omega, show (2 ≤ t ∧ (t - 2) % 8 < 2) by omega,
      show ¬ (4 ≤ t ∧ (t - 4) % 8 < 2) by omega, show ¬ (6 ≤ t ∧ (t - 6) % 8 < 2) by omega, ← Bool.and_assoc, ← Bool.decide_and]
  · have k := key 2 h
    rw [← k]
    simp [show ¬ t % 8 < 2 by omega, show ¬ (2 ≤ t ∧ (t - 2) % 8 < 2) by omega,
      show (4 ≤ t ∧ (t - 4) % 8 < 2) by omega, show ¬ (6 ≤ t ∧ (t - 6) % 8 < 2) by omega, ← Bool.and_assoc, ← Bool.decide_and]
  · have k := key 3 h
    rw [← k]
    simp [show ¬ t % 8 < 2 by omega, show ¬ (2 ≤ t ∧ (t - 2) % 8 < 2) by omega,
      show ¬ (4 ≤ t ∧ (t - 4) % 8 < 2) by omega, show (6 ≤ t ∧ (t - 6) % 8 < 2) by omega, ← Bool.and_assoc, ← Bool.decide_and]

/-- Word `k` of a node's row: three words of codes, the scale's bits, the offset's bits, three zeros. -/
def row (B : Fin 48 → BitVec 8) (s : Fin 4) (scale offset : BitVec 32) (k : Fin 8) : BitVec 32 :=
  if h : k.val < 3 then packWord B ⟨k.val, h⟩ s else if k.val = 3 then scale else if k.val = 4 then offset else 0#32

end Cert.TableBits

end
-- ==== Proof.TableBlock.lean ====
/-
  THE BLOCK ONE GRID POINT WRITES. The body writes its 1024 rows in eight tiles of 128 rows. A tile is the transpose of 128 rows
  laid one under another: for each of sixteen groups of nodes three rows of words of codes, the row of the scales' bits, the row of
  the offsets' bits and three rows of zeros.
-/
module

public import proofs.«01_k».proof.Proof.Gen.Table.Frame
public import proofs.«01_k».proof.Proof.TableBits
public import Idealize.ShloMosaic.Lib.Pipeline.Value
public import Idealize.ShloMosaic.Lib.BitcastFour
public import Idealize.ShloMosaic.Lib.Pointwise

@[expose] public section

noncomputable section

namespace Cert.Table.Block

open Cert.Table Cert.Table.Gen Cert.TableBits Idealize.ShloMosaic Idealize.ShloMosaic.TcCoe Idealize.SL.Sem

/-- The kept bits of the twelve words of the nodes of group `p` (lanes `32 p` to `32 p + 31` of the bytes `v`), as the body
    computes them. -/
def codes (v : IVec S48x128 8) (p : BitVec 32) : IVec S12x128 32 :=
  have v0 : IVec S12x128 32 := iota .tc S12x128 32 [1] iota_S12x128_d1_w32
  have v4 : IVec S12x128 32 := muli (broadcast S12x128 2#32) (andi v0 (broadcast S12x128 3#32))
  have v6 : IVec S48x128 8 := shapeCast S48x128 v shapeCasts_S48x128_S48x128
  have v7 : IVec S12x128 32 := bitcast S12x128 32 v6 bitcasts_S48x128_w8_S12x128_w32
  have v11 : IVec S12x128 32 := addi (shrsi v0 (broadcast S12x128 2#32)) (broadcast S12x128 p)
  have v16 : IVec S12x128 32 := select (cmpi .slt v11 (broadcast S12x128 0#32)) (addi v11 (broadcast S12x128 128#32)) v11
  have v18 : IVec S12x128 32 := shapeCast S12x128 (shapeCast S12x128x1 v16 shapeCasts_S12x128_S12x128x1) shapeCasts_S12x128x1_S12x128
  andi (shrsi (dynamicGather 1 v7 v18) v4) (broadcast S12x128 50529027#32)

/-- The three words of codes of those nodes. -/
def packed (v : IVec S48x128 8) (p : BitVec 32) : IVec S3x128 32 :=
  ori (ori (ori (extractStridedSlice S3x128 ![0, 0] (codes v p) slices_S12x128_o0_0_S3x128)
    (shli (extractStridedSlice S3x128 ![3, 0] (codes v p) slices_S12x128_o3_0_S3x128) (broadcast S3x128 2#32)))
    (shli (extractStridedSlice S3x128 ![6, 0] (codes v p) slices_S12x128_o6_0_S3x128) (broadcast S3x128 4#32)))
    (shli (extractStridedSlice S3x128 ![9, 0] (codes v p) slices_S12x128_o9_0_S3x128) (broadcast S3x128 6#32))

/-- The bits of a row of numbers. -/
def rowBits {F : FTy → Type} [BitOps F] (v : FVec F S1x128 .f32) : IVec S1x128 32 :=
  bitcastToInt (shapeCast S1x128 v shapeCasts_S1x128_S1x128)

/-- The lane a group's word of lane `l` is gathered from. -/
def lane (p : Fin 4) (l : Fin 128) : Fin 128 := ⟨32 * p.val + l.val / 4, by omega⟩

/-- The lane's number shifted and moved to its group, as the body computes it, is the lane gathered from. -/
theorem gathered (p : Fin 4) (l : Fin 128) :
    (Scalar.select (IntOp.cmpi .slt (IntOp.addi (IntOp.shrsi .vector (BitVec.ofNat 32 l.val) 2#32) (BitVec.ofNat 32 (32 * p.val))) 0#32)
      (IntOp.addi (IntOp.addi (IntOp.shrsi .vector (BitVec.ofNat 32 l.val) 2#32) (BitVec.ofNat 32 (32 * p.val))) 128#32)
      (IntOp.addi (IntOp.shrsi .vector (BitVec.ofNat 32 l.val) 2#32) (BitVec.ofNat 32 (32 * p.val)))).toNat % 128 = (lane p l).val :=
  (by decide +kernel : ∀ (p : Fin 4) (l : Fin 128),
    (Scalar.select (IntOp.cmpi .slt (IntOp.addi (IntOp.shrsi .vector (BitVec.ofNat 32 l.val) 2#32) (BitVec.ofNat 32 (32 * p.val))) 0#32)
      (IntOp.addi (IntOp.addi (IntOp.shrsi .vector (BitVec.ofNat 32 l.val) 2#32) (BitVec.ofNat 32 (32 * p.val))) 128#32)
      (IntOp.addi (IntOp.shrsi .vector (BitVec.ofNat 32 l.val) 2#32) (BitVec.ofNat 32 (32 * p.val)))).toNat % 128 = (lane p l).val) p l

/-- The shift of a lane is twice its number modulo four. -/
theorem shifted (l : Fin 128) :
    IntOp.muli 2#32 (IntOp.andi (BitVec.ofNat 32 l.val) 3#32) = BitVec.ofNat 32 (2 * (l.val % 4)) :=
  (by decide +kernel : ∀ l : Fin 128, IntOp.muli 2#32 (IntOp.andi (BitVec.ofNat 32 l.val) 3#32) = BitVec.ofNat 32 (2 * (l.val % 4))) l

/-- One kept word at a lane. -/
theorem codes_apply (v : IVec S48x128 8) (p : Fin 4) (w : Fin 12) (l : Fin 128) :
    codes v (BitVec.ofNat 32 (32 * p.val)) (ix2 w l)
      = kept (bitcast S12x128 32 v bitcasts_S48x128_w8_S12x128_w32 (ix2 w (lane p l))) (BitVec.ofNat 32 (2 * (l.val % 4))) := by
  have hi : iota .tc S12x128 32 [1] iota_S12x128_d1_w32 (ix2 w l) = BitVec.ofNat 32 l.val := by
    show BitVec.ofNat 32 (0 * 128 + l.val) = _
    rw [Nat.zero_mul, Nat.zero_add]
  have e : ∀ u : IVec S12x128 32, (u (ix2 w l)).toNat % 128 = (lane p l).val →
      dynamicGather 1 (bitcast S12x128 32 v bitcasts_S48x128_w8_S12x128_w32) u (ix2 w l)
        = bitcast S12x128 32 v bitcasts_S48x128_w8_S12x128_w32 (ix2 w (lane p l)) := fun u hu => by
    rw [dynamicGather_apply]
    generalize bitcast S12x128 32 v bitcasts_S48x128_w8_S12x128_w32 = y
    refine congrArg y (funext fun b => Fin.ext ?_)
    match b with
    | ⟨0, _⟩ => rfl
    | ⟨1, _⟩ => exact hu
  unfold codes
  generalize iota .tc S12x128 32 [1] iota_S12x128_d1_w32 = z at hi ⊢
  rw [shapeCast_shapeCast, shapeCast_self]
  show IntOp.andi (IntOp.shrsi .vector (dynamicGather _ _ _ _) (IntOp.muli 2#32 (IntOp.andi (z (ix2 w l)) 3#32))) 50529027#32 = _
  rw [hi, shifted, e]
  · rfl
  · show (Scalar.select (IntOp.cmpi .slt (IntOp.addi (IntOp.shrsi .vector (z (ix2 w l)) 2#32) (BitVec.ofNat 32 (32 * p.val))) 0#32)
      (IntOp.addi (IntOp.addi (IntOp.shrsi .vector (z (ix2 w l)) 2#32) (BitVec.ofNat 32 (32 * p.val))) 128#32)
      (IntOp.addi (IntOp.shrsi .vector (z (ix2 w l)) 2#32) (BitVec.ofNat 32 (32 * p.val)))).toNat % 128 = (lane p l).val
    rw [hi]
    exact gathered p l

/-- The bytes in a 32-bit word of the block. -/
theorem word_bytes (v : IVec S48x128 8) (w : Fin 12) (l : Fin 128) (t : Nat) (ht : t < 32) (f : Fin 48) (hf : f.val = 4 * w.val + t / 8) :
    (bitcast S12x128 32 v bitcasts_S48x128_w8_S12x128_w32 (ix2 w l)).getLsbD t = (v (ix2 f l)).getLsbD (t % 8) :=
  bitcast_8_32_getLsbD_ix2 v bitcasts_S48x128_w8_S12x128_w32 w l t ht f hf

/-- Three of the twelve kept words, from the row `3 q` on. -/
theorem slice_apply (x : IVec S12x128 32) (q : Nat) (off : Fin 2 → Nat) (h : S12x128.Slices off S3x128) (ho : off = ![3 * q, 0])
    (j : Fin 3) (l : Fin 128) (hq : q < 4) :
    extractStridedSlice S3x128 off x h (ix2 j l) = x (ix2 ⟨3 * q + j.val, by omega⟩ l) := by
  subst ho
  refine extractStridedSlice_apply _ _ _ _ _ fun a => ?_
  match a with
  | ⟨0, _⟩ => rfl
  | ⟨1, _⟩ => show l.val = 0 + l.val; omega

/-- Joining three words at a lane. -/
theorem packed_eq (v : IVec S48x128 8) (p : BitVec 32) (j : Fin 3) (l : Fin 128) :
    packed v p (ix2 j l) = IntOp.ori (IntOp.ori (IntOp.ori (codes v p (ix2 ⟨3 * 0 + j.val, by omega⟩ l))
      (IntOp.shli .vector (codes v p (ix2 ⟨3 * 1 + j.val, by omega⟩ l)) 2#32))
      (IntOp.shli .vector (codes v p (ix2 ⟨3 * 2 + j.val, by omega⟩ l)) 4#32))
      (IntOp.shli .vector (codes v p (ix2 ⟨3 * 3 + j.val, by omega⟩ l)) 6#32) := by
  unfold packed
  generalize codes v p = x
  rw [← slice_apply x 0 ![0, 0] slices_S12x128_o0_0_S3x128 rfl j l (by decide), ← slice_apply x 1 ![3, 0] slices_S12x128_o3_0_S3x128 rfl j l (by decide),
    ← slice_apply x 2 ![6, 0] slices_S12x128_o6_0_S3x128 rfl j l (by decide), ← slice_apply x 3 ![9, 0] slices_S12x128_o9_0_S3x128 rfl j l (by decide)]
  rfl

/-- A group's word of codes at a lane. -/
theorem packed_apply (v : IVec S48x128 8) (p : Fin 4) (j : Fin 3) (l : Fin 128) :
    packed v (BitVec.ofNat 32 (32 * p.val)) (ix2 j l)
      = packWord (fun f => v (ix2 f (lane p l))) j ⟨l.val % 4, by omega⟩ := by
  rw [packed_eq, codes_apply, codes_apply, codes_apply, codes_apply]
  have hw : ∀ (q : Fin 4) (t : Nat) (ht : t < 32),
      (bitcast S12x128 32 v bitcasts_S48x128_w8_S12x128_w32 (ix2 ⟨3 * q.val + j.val, by omega⟩ (lane p l))).getLsbD t
        = (v (ix2 ⟨12 * q.val + 4 * j.val + t / 8, by omega⟩ (lane p l))).getLsbD (t % 8) := fun q t ht =>
    word_bytes v _ _ t ht _ (by dsimp only; omega)
  generalize bitcast S12x128 32 v bitcasts_S48x128_w8_S12x128_w32 = y at hw ⊢
  exact join_eq (fun f => v (ix2 f (lane p l))) j ⟨l.val % 4, by omega⟩ (fun q => y (ix2 ⟨3 * q.val + j.val, by omega⟩ (lane p l))) hw

/-! ### A tile at an index -/

/-- Off the axis the pieces are laid along, an index of a piece and its place have the same coordinate. -/
theorem off_axis {n : Nat} (a : Fin n) (k : Fin 128) (l : Fin 128) (b : Fin 2) (hb : b ≠ 0) :
    ((ix2 a l : (⟨2, ![n, 128]⟩ : Shape).Idx) b).val = ((ix2 k l : S128x128.Idx) b).val := by
  match b with
  | ⟨0, _⟩ => exact absurd rfl hb
  | ⟨1, _⟩ => rfl

/-- The rows a tile is the transpose of, piece by piece. -/
def parts (w : Fin 16 → IVec S3x128 32) (s m : Fin 16 → IVec S1x128 32) : List ((s : Shape) × (s.Idx → BitVec 32)) :=
  ⟨S3x128, w 0⟩ :: ⟨S1x128, s 0⟩ :: ⟨S1x128, m 0⟩ :: ⟨S3x128, broadcast S3x128 0#32⟩ :: ⟨S3x128, w 1⟩ :: ⟨S1x128, s 1⟩ :: ⟨S1x128, m 1⟩ :: ⟨S3x128, broadcast S3x128 0#32⟩ :: ⟨S3x128, w 2⟩ :: ⟨S1x128, s 2⟩ :: ⟨S1x128, m 2⟩ :: ⟨S3x128, broadcast S3x128 0#32⟩ :: ⟨S3x128, w 3⟩ :: ⟨S1x128, s 3⟩ :: ⟨S1x128, m 3⟩ :: ⟨S3x128, broadcast S3x128 0#32⟩ :: ⟨S3x128, w 4⟩ :: ⟨S1x128, s 4⟩ :: ⟨S1x128, m 4⟩ :: ⟨S3x128, broadcast S3x128 0#32⟩ :: ⟨S3x128, w 5⟩ :: ⟨S1x128, s 5⟩ :: ⟨S1x128, m 5⟩ :: ⟨S3x128, broadcast S3x128 0#32⟩ :: ⟨S3x128, w 6⟩ :: ⟨S1x128, s 6⟩ :: ⟨S1x128, m 6⟩ :: ⟨S3x128, broadcast S3x128 0#32⟩ :: ⟨S3x128, w 7⟩ :: ⟨S1x128, s 7⟩ :: ⟨S1x128, m 7⟩ :: ⟨S3x128, broadcast S3x128 0#32⟩ :: ⟨S3x128, w 8⟩ :: ⟨S1x128, s 8⟩ :: ⟨S1x128, m 8⟩ :: ⟨S3x128, broadcast S3x128 0#32⟩ :: ⟨S3x128, w 9⟩ :: ⟨S1x128, s 9⟩ :: ⟨S1x128, m 9⟩ :: ⟨S3x128, broadcast S3x128 0#32⟩ :: ⟨S3x128, w 10⟩ :: ⟨S1x128, s 10⟩ :: ⟨S1x128, m 10⟩ :: ⟨S3x128, broadcast S3x128 0#32⟩ :: ⟨S3x128, w 11⟩ :: ⟨S1x128, s 11⟩ :: ⟨S1x128, m 11⟩ :: ⟨S3x128, broadcast S3x128 0#32⟩ :: ⟨S3x128, w 12⟩ :: ⟨S1x128, s 12⟩ :: ⟨S1x128, m 12⟩ :: ⟨S3x128, broadcast S3x128 0#32⟩ :: ⟨S3x128, w 13⟩ :: ⟨S1x128, s 13⟩ :: ⟨S1x128, m 13⟩ :: ⟨S3x128, broadcast S3x128 0#32⟩ :: ⟨S3x128, w 14⟩ :: ⟨S1x128, s 14⟩ :: ⟨S1x128, m 14⟩ :: ⟨S3x128, broadcast S3x128 0#32⟩ :: ⟨S3x128, w 15⟩ :: ⟨S1x128, s 15⟩ :: ⟨S1x128, m 15⟩ :: ⟨S3x128, broadcast S3x128 0#32⟩ :: []

/-- The same one under another. -/
def stack (w : Fin 16 → IVec S3x128 32) (s m : Fin 16 → IVec S1x128 32) : IVec S128x128 32 :=
  concatenate S128x128 0 (parts w s m)
    concatenates_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S128x128_d0

/-- The shapes of the pieces. -/
def shapes : List Shape := [S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128, S3x128, S1x128, S1x128, S3x128]

/-- The pieces have those shapes. -/
theorem parts_shapes (w : Fin 16 → IVec S3x128 32) (s m : Fin 16 → IVec S1x128 32) : (parts w s m).map (·.1) = shapes := rfl

/-- There are sixty-four pieces. -/
theorem parts_length (w : Fin 16 → IVec S3x128 32) (s m : Fin 16 → IVec S1x128 32) : (parts w s m).length = 64 := rfl

/-- The rows above a piece. -/
def above (k : Nat) : Nat := ((shapes.take k).map fun s => if h : s.rank = S128x128.rank then s.size ((0 : Fin S128x128.rank).cast h.symm) else 0).sum

/-- Above group `r`'s words stand `8 r` rows. -/
theorem above_words : ∀ r : Fin 16, above (4 * r.val) = 8 * r.val := by decide +kernel
/-- Above group `r`'s scales stand `8 r + 3` rows. -/
theorem above_scales : ∀ r : Fin 16, above (4 * r.val + 1) = 8 * r.val + 3 := by decide +kernel
/-- Above group `r`'s offsets stand `8 r + 4` rows. -/
theorem above_offsets : ∀ r : Fin 16, above (4 * r.val + 2) = 8 * r.val + 4 := by decide +kernel
/-- Above group `r`'s zeros stand `8 r + 5` rows. -/
theorem above_zeros : ∀ r : Fin 16, above (4 * r.val + 3) = 8 * r.val + 5 := by decide +kernel

/-- A row of the stack is a row of one of its pieces. -/
theorem stack_apply (w : Fin 16 → IVec S3x128 32) (s m : Fin 16 → IVec S1x128 32) (k : Nat) (hk : k < 64) {n : Nat}
    (x : IVec ⟨2, ![n, 128]⟩ 32) (hx : (parts w s m)[k]'hk = ⟨⟨2, ![n, 128]⟩, x⟩) (a : Fin n) (l c : Fin 128)
    (h : above k + a.val = c.val) : stack w s m (ix2 c l) = x (ix2 a l) :=
  concatenate_apply_piece (t := S128x128) 0 (parts w s m) concatenates_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S3x128_S1x128_S1x128_S3x128_S128x128_d0 (ix2 c l) k hk ⟨2, ![n, 128]⟩ x hx rfl (above k)
    (by rw [List.map_take, parts_shapes]; rfl) (ix2 a l) (fun b hb => off_axis a c l b hb) h

/-- A tile: sixteen groups' rows one under another, transposed. -/
def tile (w : Fin 16 → IVec S3x128 32) (s m : Fin 16 → IVec S1x128 32) : IVec S128x128 32 :=
  transpose S128x128 [1, 0] (stack w s m) transposes_S128x128_p1_0_S128x128

/-- A tile is their transpose. -/
theorem tile_src (w : Fin 16 → IVec S3x128 32) (s m : Fin 16 → IVec S1x128 32) (l k : Fin 128) :
    tile w s m (ix2 l k) = stack w s m (ix2 k l) :=
  transpose_apply [1, 0] (stack w s m) transposes_S128x128_p1_0_S128x128 (ix2 l k) (ix2 k l) fun b => match b with
    | ⟨0, _⟩ => rfl
    | ⟨1, _⟩ => rfl

/-- The words of codes in a tile. -/
theorem tile_words (w : Fin 16 → IVec S3x128 32) (s m : Fin 16 → IVec S1x128 32) (r : Fin 16) (j : Fin 3) (l : Fin 128) :
    tile w s m (ix2 l ⟨8 * r.val + j.val, by omega⟩) = w r (ix2 j l) :=
  (tile_src w s m l _).trans (stack_apply w s m (4 * r.val) (by omega) (w r) (by fin_cases r <;> rfl) j l _ (by rw [above_words]))

/-- The bits of the scales in a tile. -/
theorem tile_scales (w : Fin 16 → IVec S3x128 32) (s m : Fin 16 → IVec S1x128 32) (r : Fin 16) (l : Fin 128) :
    tile w s m (ix2 l ⟨8 * r.val + 3, by omega⟩) = s r (ix2 0 l) :=
  (tile_src w s m l _).trans (stack_apply w s m (4 * r.val + 1) (by omega) (s r) (by fin_cases r <;> rfl) 0 l _ (by rw [above_scales]; rfl))

/-- The bits of the offsets in a tile. -/
theorem tile_offsets (w : Fin 16 → IVec S3x128 32) (s m : Fin 16 → IVec S1x128 32) (r : Fin 16) (l : Fin 128) :
    tile w s m (ix2 l ⟨8 * r.val + 4, by omega⟩) = m r (ix2 0 l) :=
  (tile_src w s m l _).trans (stack_apply w s m (4 * r.val + 2) (by omega) (m r) (by fin_cases r <;> rfl) 0 l _ (by rw [above_offsets]; rfl))

/-- The zeros in a tile. -/
theorem tile_zeros (w : Fin 16 → IVec S3x128 32) (s m : Fin 16 → IVec S1x128 32) (r : Fin 16) (j : Fin 3) (l : Fin 128) :
    tile w s m (ix2 l ⟨8 * r.val + (5 + j.val), by omega⟩) = 0#32 :=
  (tile_src w s m l _).trans (stack_apply w s m (4 * r.val + 3) (by omega) (broadcast S3x128 0#32) (by fin_cases r <;> rfl) j l _ (by rw [above_zeros]; exact Nat.add_assoc _ _ _))

end Cert.Table.Block

end
-- ==== Proof.TablePieces.lean ====
/-
  THE EIGHT TILES A GRID POINT WRITES, in the body's order (the last first): tile `b` holds the rows of the sixteen groups of nodes
  it reads from columns `512 b` to `512 b + 511` of the bytes and rows `16 b` to `16 b + 15` of the scales and the offsets.
-/
module

public import proofs.«01_k».proof.Proof.TableBlock

@[expose] public section

noncomputable section

namespace Cert.Table.Block

open Cert.Table Cert.Table.Gen Cert.TableBits Idealize.ShloMosaic Idealize.ShloMosaic.TcCoe Idealize.SL.Sem

variable {F : FTy → Type} [BitOps F]

/-- The columns of bytes that quarter `a` of tile `b` reads. -/
abbrev byteRect (b : Fin 8) (a : Fin 4) : Rect S48x4096 :=
  Rect.unit (s := S48x4096) ![0, 512 * b.val + 128 * a.val] S48x128.size fun x => match x with
    | ⟨0, _⟩ => Nat.le_refl 48
    | ⟨1, _⟩ => by show 512 * b.val + 128 * a.val + 128 ≤ 4096; omega

/-- Row `16 b + r` of the scales or of the offsets. -/
abbrev rowRect (b : Fin 8) (r : Fin 16) : Rect S128x128 :=
  Rect.unit (s := S128x128) ![16 * b.val + r.val, 0] S1x128.size fun x => match x with
    | ⟨0, _⟩ => by show 16 * b.val + r.val + 1 ≤ 128; omega
    | ⟨1, _⟩ => Nat.le_refl 128

/-- The rows of the block that tile `b` is. -/
abbrev tileRect (b : Fin 8) : Rect S1024x128 :=
  Rect.unit (s := S1024x128) ![128 * b.val, 0] S128x128.size fun x => match x with
    | ⟨0, _⟩ => by show 128 * b.val + 128 ≤ 1024; omega
    | ⟨1, _⟩ => Nat.le_refl 128

/-- Tile `b`, from the point's bytes, scales and offsets. -/
def tileOf (x0 : Vec F S48x4096 .i8) (x1 x2 : Vec F S128x128 .f32) (b : Fin 8) : IVec S128x128 32 :=
  tile (fun r => packed (View.ld x0 (byteRect b ⟨r.val / 4, by omega⟩)) (BitVec.ofNat 32 (32 * (r.val % 4))))
    (fun r => rowBits (View.ld x1 (rowRect b r))) (fun r => rowBits (View.ld x2 (rowRect b r)))

/-- The block is the eight tiles. -/
theorem out_eq (x0 : Vec F S48x4096 .i8) (x1 x2 : Vec F S128x128 .f32) :
    out0_3 x0 x1 x2 = View.canon [⟨tileRect 7, tileOf x0 x1 x2 7⟩, ⟨tileRect 6, tileOf x0 x1 x2 6⟩, ⟨tileRect 5, tileOf x0 x1 x2 5⟩,
      ⟨tileRect 4, tileOf x0 x1 x2 4⟩, ⟨tileRect 3, tileOf x0 x1 x2 3⟩, ⟨tileRect 2, tileOf x0 x1 x2 2⟩, ⟨tileRect 1, tileOf x0 x1 x2 1⟩,
      ⟨tileRect 0, tileOf x0 x1 x2 0⟩] := by
  unfold out0_3
  refine congrArg View.canon (List.cons_eq_cons.mpr ⟨?_, List.cons_eq_cons.mpr ⟨?_, List.cons_eq_cons.mpr ⟨?_, List.cons_eq_cons.mpr ⟨?_,
    List.cons_eq_cons.mpr ⟨?_, List.cons_eq_cons.mpr ⟨?_, List.cons_eq_cons.mpr ⟨?_, List.cons_eq_cons.mpr ⟨?_, rfl⟩⟩⟩⟩⟩⟩⟩⟩)
  · exact congrArg (Sigma.mk (tileRect 7)) rfl
  · exact congrArg (Sigma.mk (tileRect 6)) rfl
  · exact congrArg (Sigma.mk (tileRect 5)) rfl
  · exact congrArg (Sigma.mk (tileRect 4)) rfl
  · exact congrArg (Sigma.mk (tileRect 3)) rfl
  · exact congrArg (Sigma.mk (tileRect 2)) rfl
  · exact congrArg (Sigma.mk (tileRect 1)) rfl
  · exact congrArg (Sigma.mk (tileRect 0)) rfl

/-! ### The block, word by word -/

/-- A byte of a quarter of a tile is a byte of the block. -/
theorem ld_bytes (x0 : Vec F S48x4096 .i8) (b : Fin 8) (a : Fin 4) (f : Fin 48) (l : Fin 128) (c : Fin 4096)
    (hc : c.val = 512 * b.val + 128 * a.val + l.val) :
    View.ld x0 (byteRect b a) (ix2 f l) = x0 (ix2 f c) := by
  refine congrArg x0 (funext fun x => Fin.ext ?_)
  match x with
  | ⟨0, _⟩ => show 0 + 1 * f.val = f.val; omega
  | ⟨1, _⟩ => show 512 * b.val + 128 * a.val + 1 * l.val = c.val; omega

/-- An entry of a row of scales or offsets is an entry of the block. -/
theorem ld_row (x : Vec F S128x128 .f32) (b : Fin 8) (r : Fin 16) (l : Fin 128) :
    rowBits (View.ld x (rowRect b r)) (ix2 0 l) = BitOps.toBits (x (ix2 ⟨16 * b.val + r.val, by omega⟩ l)) := by
  unfold rowBits
  rw [shapeCast_self]
  refine congrArg (fun i => BitOps.toBits (x i)) (funext fun a => Fin.ext ?_)
  match a with
  | ⟨0, _⟩ => show 16 * b.val + r.val + 1 * 0 = 16 * b.val + r.val; omega
  | ⟨1, _⟩ => show 0 + 1 * l.val = l.val; omega

/-- A tile, word by word. -/
theorem tileOf_apply (x0 : Vec F S48x4096 .i8) (x1 x2 : Vec F S128x128 .f32) (b : Fin 8) (r : Fin 16) (k : Fin 8) (l : Fin 128) :
    tileOf x0 x1 x2 b (ix2 l ⟨8 * r.val + k.val, by omega⟩)
      = row (fun f => x0 (ix2 f ⟨512 * b.val + 32 * r.val + l.val / 4, by omega⟩)) ⟨l.val % 4, by omega⟩
          (BitOps.toBits (x1 (ix2 ⟨16 * b.val + r.val, by omega⟩ l))) (BitOps.toBits (x2 (ix2 ⟨16 * b.val + r.val, by omega⟩ l))) k := by
  unfold tileOf row
  by_cases h : k.val < 3
  · rw [dif_pos h]
    refine (tile_words _ _ _ r ⟨k.val, h⟩ l).trans ?_
    refine (packed_apply _ ⟨r.val % 4, by omega⟩ ⟨k.val, h⟩ l).trans ?_
    refine congrArg (fun B => packWord B ⟨k.val, h⟩ ⟨l.val % 4, by omega⟩) (funext fun f => ?_)
    exact ld_bytes x0 b _ f _ _ (by unfold lane; dsimp only; omega)
  · rw [dif_neg h]
    by_cases h3 : k.val = 3
    · obtain rfl : k = 3 := Fin.ext h3
      rw [if_pos h3, ← ld_row]
      exact tile_scales _ _ _ r l
    · rw [if_neg h3]
      by_cases h4 : k.val = 4
      · obtain rfl : k = 4 := Fin.ext h4
        rw [if_pos h4, ← ld_row]
        exact tile_offsets _ _ _ r l
      · rw [if_neg h4]
        obtain ⟨j, hj⟩ : ∃ j : ℕ, k.val = 5 + j := ⟨k.val - 5, by omega⟩
        obtain ⟨k, hk⟩ := k
        obtain rfl : k = 5 + j := hj
        exact tile_zeros _ _ _ r ⟨j, by omega⟩ l

/-- The block a point writes: row `128 b + l`, word `8 r + k`. -/
def block (x0 : Vec F S48x4096 .i8) (x1 x2 : Vec F S128x128 .f32) (y : S1024x128.Idx) : BitVec 32 :=
  have h0 : (y 0).val < 1024 := (y 0).isLt
  have h1 : (y 1).val < 128 := (y 1).isLt
  row (fun f => x0 (ix2 f ⟨512 * ((y 0).val / 128) + 32 * ((y 1).val / 8) + (y 0).val % 128 / 4, by omega⟩)) ⟨(y 0).val % 128 % 4, by omega⟩
    (BitOps.toBits (x1 (ix2 ⟨16 * ((y 0).val / 128) + (y 1).val / 8, by omega⟩ ⟨(y 0).val % 128, by omega⟩)))
    (BitOps.toBits (x2 (ix2 ⟨16 * ((y 0).val / 128) + (y 1).val / 8, by omega⟩ ⟨(y 0).val % 128, by omega⟩)))
    ⟨(y 1).val % 8, by omega⟩

/-- Every tile holds its rows of the block. -/
theorem tileOf_eq (x0 : Vec F S48x4096 .i8) (x1 x2 : Vec F S128x128 .f32) (b : Fin 8) (x : (tileRect b).shape.Idx) :
    tileOf x0 x1 x2 b x = block x0 x1 x2 ((tileRect b).emb x) := by
  have h0 : (x 0).val < 128 := (x 0).isLt
  have h1 : (x 1).val < 128 := (x 1).isLt
  have e0 : (((tileRect b).emb x) 0).val = 128 * b.val + (x 0).val := by
    show 128 * b.val + 1 * (x 0).val = _; omega
  have e1 : (((tileRect b).emb x) 1).val = (x 1).val := by
    show 0 + 1 * (x 1).val = _; omega
  have ex : x = ix2 ⟨(x 0).val, h0⟩ ⟨8 * ((x 1).val / 8) + (x 1).val % 8, by omega⟩ := by
    funext a
    apply Fin.ext
    match a with
    | ⟨0, _⟩ => rfl
    | ⟨1, _⟩ => show (x 1).val = 8 * ((x 1).val / 8) + (x 1).val % 8; omega
  refine (congrArg (tileOf x0 x1 x2 b) ex).trans ((tileOf_apply x0 x1 x2 b ⟨(x 1).val / 8, by omega⟩ ⟨(x 1).val % 8, by omega⟩ ⟨(x 0).val, h0⟩).trans ?_)
  unfold block
  simp only [e0, e1]
  have d0 : (128 * b.val + (x 0).val) / 128 = b.val := by omega
  have d1 : (128 * b.val + (x 0).val) % 128 = (x 0).val := by omega
  simp only [d0, d1]

/-- What the body leaves in the block. -/
theorem out_block (x0 : Vec F S48x4096 .i8) (x1 x2 : Vec F S128x128 .f32) : out0_3 x0 x1 x2 = block x0 x1 x2 := by
  rw [out_eq]
  funext y
  refine View.canon_apply_of_pieces (Val := Elt F) (e := .i32) (block x0 x1 x2) _ ?_ y ?_
  · intro p hp
    simp only [List.mem_cons, List.not_mem_nil, or_false] at hp
    rcases hp with rfl | rfl | rfl | rfl | rfl | rfl | rfl | rfl
    all_goals exact tileOf_eq x0 x1 x2 _
  · have h0 : (y 0).val < 1024 := (y 0).isLt
    have h1 : (y 1).val < 128 := (y 1).isLt
    have cov : ∀ b : Fin 8, (y 0).val / 128 = b.val → y ∈ (tileRect b).set := fun b hb => by
      rw [Rect.mem_set_unit]
      intro a
      match a with
      | ⟨0, _⟩ => show 128 * b.val ≤ (y 0).val ∧ (y 0).val < 128 * b.val + 128; omega
      | ⟨1, _⟩ => show 0 ≤ (y 1).val ∧ (y 1).val < 0 + 128; omega
    have hc : ∃ b : Fin 8, (y 0).val / 128 = b.val := ⟨⟨(y 0).val / 128, by omega⟩, rfl⟩
    obtain ⟨b, hb⟩ := hc
    refine ⟨⟨tileRect b, tileOf x0 x1 x2 b⟩, ?_, cov b hb⟩
    fin_cases b <;> simp

end Cert.Table.Block

end
-- ==== Proof.TableReading.lean ====
/-
  THE REFERENCE TABLE, WORD BY WORD. Row `n` of the reference before its rearrangement is the row of node `n`; the rearrangement
  puts the row of node `2048 q + 128 r + l` at row `128 q + l`, words `8 r` to `8 r + 7`.
-/
module

public import proofs.«01_k».proof.Proof.TableBits
public import proofs.«01_k».proof.Proof.Gen.TableReference.Read
public import Idealize.ShloMosaic.Lib.Pointwise

@[expose] public section

noncomputable section

namespace Cert.TableReference.Reading

open Cert.TableReference Cert.TableReference.Gen Cert.TableReference.Read Cert.TableBits Idealize.ShloMosaic Idealize.ShloMosaic.TcCoe Idealize.SL.Sem

variable {F : FTy → Type} [BitOps F]

/-- How far the codes of a byte's `s`-th node are shifted. -/
theorem shift_eq : ∀ s : Fin 4, IntOp.muli 2#32 (BitVec.ofNat 32 s.val) = BitVec.ofNat 32 (2 * s.val) := by decide +kernel

/-- Where code `i` stands. -/
theorem place_eq : ∀ i : Fin 16, IntOp.addi (IntOp.muli 8#32 (IntOp.andi (BitVec.ofNat 32 i.val) 3#32))
    (IntOp.muli 2#32 (IntOp.shrsi .host (BitVec.ofNat 32 i.val) 2#32)) = BitVec.ofNat 32 (place i.val) := by decide +kernel

/-- Axis order of the codes: word `j`'s code `i` is code `i % 4` of part `j` of quarter `i / 4`. -/
theorem src13 (n : Fin 163840) (j : Fin 3) (i : Fin 16) :
    idx_main_v13 (ix3 n j i) = ix4 n j ⟨i.val / 4, by omega⟩ ⟨i.val % 4, by omega⟩ := by
  funext a
  apply Fin.ext
  match a with
  | ⟨0, _⟩ => show ((n.val * 3 + j.val) * 16 + i.val) / 48 = n.val; omega
  | ⟨1, _⟩ => show ((n.val * 3 + j.val) * 16 + i.val) / 16 % 3 = j.val; omega
  | ⟨2, _⟩ => show ((n.val * 3 + j.val) * 16 + i.val) / 4 % 4 = i.val / 4; omega
  | ⟨3, _⟩ => show ((n.val * 3 + j.val) * 16 + i.val) % 4 = i.val % 4; omega

/-- Node `n` is the `n % 4`-th of byte row `n / 4`. -/
theorem src11 (n : Fin 163840) (j : Fin 3) (q b : Fin 4) :
    idx_main_v11 (idx_main_v12 (ix4 n j q b)) = ix3 ⟨n.val / 4, by omega⟩ ⟨n.val % 4, by omega⟩ ⟨12 * q.val + 4 * j.val + b.val, by omega⟩ := by
  funext a
  apply Fin.ext
  match a with
  | ⟨0, _⟩ => show (((n.val * 4 + q.val) * 3 + j.val) * 4 + b.val) / 192 = n.val / 4; omega
  | ⟨1, _⟩ => show (((n.val * 4 + q.val) * 3 + j.val) * 4 + b.val) / 48 % 4 = n.val % 4; omega
  | ⟨2, _⟩ => show (((n.val * 4 + q.val) * 3 + j.val) * 4 + b.val) % 48 = 12 * q.val + 4 * j.val + b.val; omega

/-- A code read from its byte. -/
theorem code_read (x0 : (⟨S40960x48, .i8⟩ : BufTy).Contents (Elt F)) (p : Fin 40960) (s : Fin 4) (f : Fin 48) :
    val_main_v10 (F := F) x0 (ix3 p s f)
      = IntOp.andi (IntOp.shrsi .host ((x0 (ix2 p f)).setWidth 32) (BitVec.ofNat 32 (2 * s.val))) 3#32 := by
  rw [val_main_v10_apply, val_main_v8_apply, val_main_v6_apply, val_main_v4_apply, val_main_v0_apply, val_main_v7_apply, val_main_v5_apply,
    val_main_v3_apply, val_main_v2_apply, val_main_c_apply, val_main_v1_apply, val_main_v9_apply, val_main_c_0_apply, ← shift_eq s]
  have e : idx_main_v4 (idx_main_v6 (ix3 p s f)) = ix2 p f := by
    funext a
    apply Fin.ext
    match a with
    | ⟨0, _⟩ => rfl
    | ⟨1, _⟩ => rfl
  rw [e]
  rfl

/-- The place of a code, as the reference computes it. -/
theorem place_read (n : Fin 163840) (j : Fin 3) (i : Fin 16) : val_main_v25 (F := F) (ix3 n j i) = BitVec.ofNat 32 (place i.val) := by
  rw [val_main_v25_apply, val_main_v24_apply, val_main_v23_apply, val_main_v18_apply, val_main_v17_apply, val_main_c_2_apply, val_main_v16_apply,
    val_main_v14_apply, val_main_v15_apply, val_main_c_1_apply, val_main_v22_apply, val_main_v21_apply, val_main_c_4_apply, val_main_v20_apply,
    val_main_v14_apply, val_main_v19_apply, val_main_c_3_apply]
  exact place_eq i

/-- A code at its place in its word. -/
theorem placed (x0 : (⟨S40960x48, .i8⟩ : BufTy).Contents (Elt F)) (n : Fin 163840) (j : Fin 3) (i : Fin 16) :
    val_main_v26 (F := F) x0 (ix3 n j i) = code (x0 (ix2 ⟨n.val / 4, by omega⟩ ⟨12 * (i.val / 4) + 4 * j.val + i.val % 4, by omega⟩))
      (BitVec.ofNat 32 (2 * (n.val % 4))) (BitVec.ofNat 32 (place i.val)) := by
  rw [val_main_v26_apply, place_read, val_main_v13_apply, val_main_v12_apply, val_main_v11_apply, src13, src11, code_read]
  rfl

/-- The reduced index with the dropped coordinate put back. -/
theorem lift_eq (h : S163840x3x16.Reduces [2] S163840x3) (n : Fin 163840) (j : Fin 3) (i : Fin 16) : h.lift (ix2 n j) i = ix3 n j i := by
  funext c
  apply Fin.ext
  match c with
  | ⟨0, _⟩ => rfl
  | ⟨1, _⟩ => rfl
  | ⟨2, _⟩ => rfl

/-- The sum over the last axis leaves nodes and words. -/
theorem reduces : S163840x3x16.Reduces [2] S163840x3 := by decide

/-- A word of codes. -/
theorem word (x0 : (⟨S40960x48, .i8⟩ : BufTy).Contents (Elt F)) (n : Fin 163840) (j : Fin 3) :
    val_main_v27 (F := F) x0 (ix2 n j) = packWord (fun f => x0 (ix2 ⟨n.val / 4, by omega⟩ f)) j ⟨n.val % 4, by omega⟩ := by
  unfold val_main_v27
  refine (Host.reduce_eq_fold_single IntOp.addi (val_main_v26 (F := F) x0) (val_main_c_5 (F := F)) reducesTo_S163840x3x16_S163840x3_d2 reduces h_S_ (ix2 n j)).trans ?_
  unfold packWord
  have hf : (val_main_v26 (F := F) x0 ∘ reduces.lift (ix2 n j)) = fun i : Fin 16 =>
      code (x0 (ix2 ⟨n.val / 4, by omega⟩ ⟨12 * (i.val / 4) + 4 * j.val + i.val % 4, by omega⟩))
        (BitVec.ofNat 32 (2 * (n.val % 4))) (BitVec.ofNat 32 (place i.val)) :=
    funext fun i => (congrArg (val_main_v26 (F := F) x0) (lift_eq reduces n j i)).trans (placed x0 n j i)
  exact congrArg (fun f => Finset.fold IntOp.addi 0#32 f (Finset.univ : Finset (Fin 16))) hf

/-- The four parts of the rows side by side. -/
def side (w : IVec S163840x3 32) (s m : IVec S163840x1 32) (z : IVec S163840x3 32) : IVec S163840x8 32 :=
  concatenate S163840x8 1 [⟨S163840x3, w⟩, ⟨S163840x1, s⟩, ⟨S163840x1, m⟩, ⟨S163840x3, z⟩] concatenates_S163840x3_S163840x1_S163840x1_S163840x3_S163840x8_d1

/-- Away from the joined axis a piece is read where the whole is. -/
theorem off_axis {N : Nat} (n : Fin 163840) (a : Fin N) (k : Fin 8) (b : Fin 2) (hb : b ≠ 1) : (ix2 n a b).val = (ix2 n k b).val := by
  match b with
  | ⟨0, _⟩ => rfl
  | ⟨1, _⟩ => exact absurd rfl hb

/-- The first three words of a row come from the words of codes. -/
theorem side_words (w : IVec S163840x3 32) (s m : IVec S163840x1 32) (z : IVec S163840x3 32) (n : Fin 163840) (j : Fin 3) :
    side w s m z (ix2 n ⟨j.val, by omega⟩) = w (ix2 n j) :=
  concatenate_apply_piece (t := S163840x8) 1 [⟨S163840x3, w⟩, ⟨S163840x1, s⟩, ⟨S163840x1, m⟩, ⟨S163840x3, z⟩] _ (ix2 n ⟨j.val, by omega⟩)
    0 (Nat.zero_lt_succ 3) S163840x3 w rfl rfl 0 rfl (ix2 n j) (fun b hb => off_axis n j _ b hb) (Nat.zero_add _)

/-- The fourth word is the scale. -/
theorem side_scale (w : IVec S163840x3 32) (s m : IVec S163840x1 32) (z : IVec S163840x3 32) (n : Fin 163840) :
    side w s m z (ix2 n 3) = s (ix2 n 0) :=
  concatenate_apply_piece (t := S163840x8) 1 [⟨S163840x3, w⟩, ⟨S163840x1, s⟩, ⟨S163840x1, m⟩, ⟨S163840x3, z⟩] _ (ix2 n 3)
    1 (show 1 < 4 by decide) S163840x1 s rfl rfl 3 rfl (ix2 n 0) (fun b hb => off_axis n 0 _ b hb) rfl

/-- The fifth word is the offset. -/
theorem side_offset (w : IVec S163840x3 32) (s m : IVec S163840x1 32) (z : IVec S163840x3 32) (n : Fin 163840) :
    side w s m z (ix2 n 4) = m (ix2 n 0) :=
  concatenate_apply_piece (t := S163840x8) 1 [⟨S163840x3, w⟩, ⟨S163840x1, s⟩, ⟨S163840x1, m⟩, ⟨S163840x3, z⟩] _ (ix2 n 4)
    2 (show 2 < 4 by decide) S163840x1 m rfl rfl 4 rfl (ix2 n 0) (fun b hb => off_axis n 0 _ b hb) rfl

/-- The last three words come from the zeros. -/
theorem side_rest (w : IVec S163840x3 32) (s m : IVec S163840x1 32) (z : IVec S163840x3 32) (n : Fin 163840) (j : Fin 3) :
    side w s m z (ix2 n ⟨5 + j.val, by omega⟩) = z (ix2 n j) :=
  concatenate_apply_piece (t := S163840x8) 1 [⟨S163840x3, w⟩, ⟨S163840x1, s⟩, ⟨S163840x1, m⟩, ⟨S163840x3, z⟩] _ (ix2 n ⟨5 + j.val, by omega⟩)
    3 (show 3 < 4 by decide) S163840x3 z rfl rfl 5 rfl (ix2 n j) (fun b hb => off_axis n j _ b hb) rfl

/-- The row of a node. -/
theorem row_read (x0 : (⟨S40960x48, .i8⟩ : BufTy).Contents (Elt F)) (x1 x2 : (⟨S163840, .f32⟩ : BufTy).Contents (Elt F)) (n : Fin 163840) (k : Fin 8) :
    val_main_v33 (F := F) x0 x1 x2 (ix2 n k) = row (fun f => x0 (ix2 ⟨n.val / 4, by omega⟩ f)) ⟨n.val % 4, by omega⟩
      (BitOps.toBits (x2 (ix1 n))) (BitOps.toBits (x1 (ix1 n))) k := by
  have e : val_main_v33 (F := F) x0 x1 x2 = side (val_main_v27 (F := F) x0) (val_main_v30 (F := F) x2) (val_main_v31 (F := F) x1) (val_main_v32 (F := F)) := rfl
  rw [e]
  unfold row
  by_cases h : k.val < 3
  · rw [dif_pos h, ← word x0 n ⟨k.val, h⟩]
    exact side_words _ _ _ _ n ⟨k.val, h⟩
  · rw [dif_neg h]
    have e1 : idx_main_v30 (ix2 n 0) = ix1 n := by
      funext a
      apply Fin.ext
      match a with
      | ⟨0, _⟩ => rfl
    have e2 : idx_main_v31 (ix2 n 0) = ix1 n := by
      funext a
      apply Fin.ext
      match a with
      | ⟨0, _⟩ => rfl
    by_cases h3 : k.val = 3
    · obtain rfl : k = 3 := Fin.ext h3
      rw [if_pos h3, side_scale, val_main_v30_apply, val_main_v28_apply, e1]
    · rw [if_neg h3]
      by_cases h4 : k.val = 4
      · obtain rfl : k = 4 := Fin.ext h4
        rw [if_pos h4, side_offset, val_main_v31_apply, val_main_v29_apply, e2]
      · rw [if_neg h4]
        obtain ⟨j, hj⟩ : ∃ j : ℕ, k.val = 5 + j := ⟨k.val - 5, by omega⟩
        obtain ⟨k, hk⟩ := k
        obtain rfl : k = 5 + j := hj
        refine (side_rest _ _ _ _ n ⟨j, by omega⟩).trans ?_
        rw [val_main_v32_apply, val_main_c_6_apply]

/-- Which node's word stands at row `a`, word `b` of the result. -/
theorem src (a : Fin 10240) (b : Fin 128) : idx_main_v34 (idx_main_v35 (idx_main_v36 (ix2 a b)))
    = ix2 ⟨2048 * (a.val / 128) + 128 * (b.val / 8) + a.val % 128, by omega⟩ ⟨b.val % 8, by omega⟩ := by
  have h0 : (a.val * 128 + b.val) / 16384 = a.val / 128 := by omega
  have h1 : (a.val * 128 + b.val) / 128 % 128 = a.val % 128 := by omega
  have h2 : (a.val * 128 + b.val) / 8 % 16 = b.val / 8 := by omega
  have h3 : (a.val * 128 + b.val) % 8 = b.val % 8 := by omega
  funext x
  apply Fin.ext
  match x with
  | ⟨0, _⟩ =>
    show (((((a.val * 128 + b.val) / 16384) * 16 + (a.val * 128 + b.val) / 8 % 16) * 128 + (a.val * 128 + b.val) / 128 % 128) * 8
      + (a.val * 128 + b.val) % 8) / 8 = 2048 * (a.val / 128) + 128 * (b.val / 8) + a.val % 128
    rw [h0, h1, h2, h3]; omega
  | ⟨1, _⟩ =>
    show (((((a.val * 128 + b.val) / 16384) * 16 + (a.val * 128 + b.val) / 8 % 16) * 128 + (a.val * 128 + b.val) / 128 % 128) * 8
      + (a.val * 128 + b.val) % 8) % 8 = b.val % 8
    rw [h0, h1, h2, h3]; omega

/-- A word of the reference's table. -/
theorem read (x0 : (⟨S40960x48, .i8⟩ : BufTy).Contents (Elt F)) (x1 x2 : (⟨S163840, .f32⟩ : BufTy).Contents (Elt F)) (a : Fin 10240) (b : Fin 128) :
    val_main_v36 (F := F) x0 x1 x2 (ix2 a b)
      = row (fun f => x0 (ix2 ⟨(2048 * (a.val / 128) + 128 * (b.val / 8) + a.val % 128) / 4, by omega⟩ f))
        ⟨(2048 * (a.val / 128) + 128 * (b.val / 8) + a.val % 128) % 4, by omega⟩
        (BitOps.toBits (x2 (ix1 ⟨2048 * (a.val / 128) + 128 * (b.val / 8) + a.val % 128, by omega⟩)))
        (BitOps.toBits (x1 (ix1 ⟨2048 * (a.val / 128) + 128 * (b.val / 8) + a.val % 128, by omega⟩))) ⟨b.val % 8, by omega⟩ := by
  rw [val_main_v36_apply, val_main_v35_apply, val_main_v34_apply, src, row_read]

end Cert.TableReference.Reading

end
-- ==== Proof.TableResult.lean ====
/-
  THE TABLE'S RESULT. Point `t` of the table's grid reads columns `4096 t` on of the transposed bytes and rows `128 t` on of the
  scales and offsets laid out 128 to a row, and writes rows `1024 t` on of the result. Word by word the array is the reference's.
-/
module

public import proofs.«01_k».proof.Proof.TablePieces
public import proofs.«01_k».proof.Proof.TableReading
public import proofs.«01_k».proof.Proof.Gen.Table.Frame
public import proofs.«01_k».proof.Proof.Gen.Table.Value
public import Idealize.ShloMosaic.Lib.Pipeline.Value
public import Idealize.ShloMosaic.Lib.Tactic
public import Idealize.ShloMosaic.Lib.Pointwise

@[expose] public section

noncomputable section

namespace Cert.Table.Result

open Cert.Table Cert.Table.Gen Cert.Table.Block Cert.TableBits Idealize.ShloMosaic Idealize.ShloMosaic.TcCoe Idealize.SL.Sem

variable {F : FTy → Type} [BitOps F]
variable (m : (ℓ : Loc nD τ sig) → Buf (Elt F) ℓ) (c : Dev nD)

/-- The packed bytes. -/
abbrev bytes : (⟨S40960x48, .i8⟩ : BufTy).Contents (Elt F) := m (c, Proc.tc.devRef main_arg0)
/-- The nodes' offsets. -/
abbrev offsets : (⟨S163840, .f32⟩ : BufTy).Contents (Elt F) := m (c, Proc.tc.devRef main_arg1)
/-- The nodes' scales. -/
abbrev scales : (⟨S163840, .f32⟩ : BufTy).Contents (Elt F) := m (c, Proc.tc.devRef main_arg2)

/-! ### What the host hands over -/

/-- The host transposes the bytes. -/
theorem host_bytes : (V m c main_v0 : Vec F S48x40960 .i8) = transpose S48x40960 [1, 0] (bytes m c) transposes_S40960x48_S48x40960_1_0 := by
  unfold V
  after_results

/-- The host lays the scales out 128 to a row. -/
theorem host_scales : (V m c main_v1 : Vec F S1280x128 .f32) = shapeCast _ (scales m c) shapeCasts_S163840_S1280x128 := by
  unfold V
  after_results
  rfl

/-- The host lays the offsets out 128 to a row. -/
theorem host_offsets : (V m c main_v2 : Vec F S1280x128 .f32) = shapeCast _ (offsets m c) shapeCasts_S163840_S1280x128 := by
  unfold V
  after_results
  rfl

/-- The bytes transposed. -/
theorem turned (x : Vec F S40960x48 .i8) (f : Fin 48) (p : Fin 40960) :
    transpose S48x40960 [1, 0] x transposes_S40960x48_S48x40960_1_0 (ix2 f p) = x (ix2 p f) :=
  transpose_apply [1, 0] x transposes_S40960x48_S48x40960_1_0 (ix2 f p) (ix2 p f) fun b => match b with
    | ⟨0, _⟩ => rfl
    | ⟨1, _⟩ => rfl

/-- A list of numbers laid out 128 to a row. -/
theorem laid (x : Vec F S163840 .f32) (a : Fin 1280) (l : Fin 128) :
    shapeCast S1280x128 x shapeCasts_S163840_S1280x128 (ix2 a l) = x (ix1 ⟨128 * a.val + l.val, by omega⟩) :=
  shapeCast_apply x shapeCasts_S163840_S1280x128 (ix2 a l) (ix1 ⟨128 * a.val + l.val, by omega⟩) (by
    rewrite [Shape.rowMajor_val_one, Shape.rowMajor_val_two]
    show 128 * a.val + l.val = a.val * 128 + l.val
    omega)

/-! ### What each point reads -/

/-- Which columns of bytes a point reads. -/
theorem idx0 (t : Fin cfg0.N) : win0_0.index t 0 = 0 ∧ win0_0.index t 1 = t.val :=
  (by decide +kernel : ∀ t : Fin grid0.N, win0_0.index t 0 = 0 ∧ win0_0.index t 1 = t.val) t
/-- Which rows of scales a point reads. -/
theorem idx1 (t : Fin cfg0.N) : win0_1.index t 0 = t.val ∧ win0_1.index t 1 = 0 :=
  (by decide +kernel : ∀ t : Fin grid0.N, win0_1.index t 0 = t.val ∧ win0_1.index t 1 = 0) t
/-- Which rows of offsets a point reads. -/
theorem idx2 (t : Fin cfg0.N) : win0_2.index t 0 = t.val ∧ win0_2.index t 1 = 0 :=
  (by decide +kernel : ∀ t : Fin grid0.N, win0_2.index t 0 = t.val ∧ win0_2.index t 1 = 0) t
/-- Which rows of the result a point writes. -/
theorem idx3 (t : Fin cfg0.N) : win0_3.index t 0 = t.val ∧ win0_3.index t 1 = 0 :=
  (by decide +kernel : ∀ t : Fin grid0.N, win0_3.index t 0 = t.val ∧ win0_3.index t 1 = 0) t

/-- The bytes of point `t`. -/
theorem blk0 (t : Fin cfg0.N) (f : Fin 48) (p : Fin 4096) (h : 4096 * t.val + p.val < 40960) :
    (iblk m c 0 t : Vec F S48x4096 .i8) (ix2 f p) = bytes m c (ix2 ⟨4096 * t.val + p.val, h⟩ f) := by
  have h0 := (idx0 t).1
  have h1 := (idx0 t).2
  refine Eq.trans ?_ ((congrFun (host_bytes m c) (ix2 f ⟨4096 * t.val + p.val, h⟩)).trans (turned (bytes m c) f ⟨4096 * t.val + p.val, h⟩))
  unfold iblk
  rw [View.read_apply]
  show (V m c main_v0 : Vec F S48x40960 .i8) _ = _
  congr 1
  funext a
  apply Fin.ext
  match a with
  | ⟨0, _⟩ => show win0_0.index t 0 * 48 + 1 * f.val = f.val; omega
  | ⟨1, _⟩ => show win0_0.index t 1 * 4096 + 1 * p.val = 4096 * t.val + p.val; omega

/-- The scales of point `t`. -/
theorem blk1 (t : Fin cfg0.N) (a l : Fin 128) (h : 128 * (128 * t.val + a.val) + l.val < 163840) :
    (iblk m c 1 t : Vec F S128x128 .f32) (ix2 a l) = scales m c (ix1 ⟨128 * (128 * t.val + a.val) + l.val, h⟩) := by
  have h0 := (idx1 t).1
  have h1 := (idx1 t).2
  refine Eq.trans ?_ ((congrFun (host_scales m c) (ix2 ⟨128 * t.val + a.val, by omega⟩ l)).trans (laid (scales m c) ⟨128 * t.val + a.val, by omega⟩ l))
  unfold iblk
  rw [View.read_apply]
  show (V m c main_v1 : Vec F S1280x128 .f32) _ = _
  congr 1
  funext x
  apply Fin.ext
  match x with
  | ⟨0, _⟩ => show win0_1.index t 0 * 128 + 1 * a.val = 128 * t.val + a.val; omega
  | ⟨1, _⟩ => show win0_1.index t 1 * 128 + 1 * l.val = l.val; omega

/-- The offsets of point `t`. -/
theorem blk2 (t : Fin cfg0.N) (a l : Fin 128) (h : 128 * (128 * t.val + a.val) + l.val < 163840) :
    (iblk m c 2 t : Vec F S128x128 .f32) (ix2 a l) = offsets m c (ix1 ⟨128 * (128 * t.val + a.val) + l.val, h⟩) := by
  have h0 := (idx2 t).1
  have h1 := (idx2 t).2
  refine Eq.trans ?_ ((congrFun (host_offsets m c) (ix2 ⟨128 * t.val + a.val, by omega⟩ l)).trans (laid (offsets m c) ⟨128 * t.val + a.val, by omega⟩ l))
  unfold iblk
  rw [View.read_apply]
  show (V m c main_v2 : Vec F S1280x128 .f32) _ = _
  congr 1
  funext x
  apply Fin.ext
  match x with
  | ⟨0, _⟩ => show win0_2.index t 0 * 128 + 1 * a.val = 128 * t.val + a.val; omega
  | ⟨1, _⟩ => show win0_2.index t 1 * 128 + 1 * l.val = l.val; omega

/-! ### The result array -/

/-- The array after the run: row `1024 t + r` is row `r` of point `t`'s block. -/
theorem final (t : Fin cfg0.N) (r : Fin 1024) (b : Fin 128) (h : 1024 * t.val + r.val < 10240) :
    ((dats m 0 c).arrAt 3 cfg0.N : IVec S10240x128 32) (ix2 ⟨1024 * t.val + r.val, h⟩ b)
      = block (iblk m c 0 t) (iblk m c 1 t) (iblk m c 2 t) (ix2 r b) := by
  have h0 := (idx3 t).1
  have h1 := (idx3 t).2
  have e := congrFun (Value.blocks3 m c t (flush0_3 t)) (ix2 r b)
  rw [View.read_apply, Value.flushed3, out_block] at e
  refine Eq.trans ?_ e
  show ((dats m 0 c).arrAt 3 cfg0.N : IVec S10240x128 32) _ = ((dats m 0 c).arrAt 3 cfg0.N : IVec S10240x128 32) _
  congr 1
  funext a
  apply Fin.ext
  match a with
  | ⟨0, _⟩ => show 1024 * t.val + r.val = win0_3.index t 0 * 1024 + 1 * r.val; omega
  | ⟨1, _⟩ => show b.val = win0_3.index t 1 * 128 + 1 * b.val; omega

/-- Rows of equal parts are equal. -/
theorem row_congr {B B' : Fin 48 → BitVec 8} {s s' : Fin 4} {x x' y y' : BitVec 32} (k : Fin 8) (h1 : B = B') (h2 : s = s') (h3 : x = x') (h4 : y = y') :
    row B s x y k = row B' s' x' y' k := by rw [h1, h2, h3, h4]

/-- THE TABLE of the kernel is the reference's. -/
theorem table_eq : ((dats m 0 c).arrAt 3 cfg0.N : IVec S10240x128 32)
    = Cert.TableReference.Read.val_main_v36 (F := F) (bytes m c) (offsets m c) (scales m c) := by
  have hN : cfg0.N = 10 := N_0
  have key : ∀ (n : Fin 10240) (b : Fin 128), ((dats m 0 c).arrAt 3 cfg0.N : IVec S10240x128 32) (ix2 n b)
      = Cert.TableReference.Read.val_main_v36 (F := F) (bytes m c) (offsets m c) (scales m c) (ix2 n b) := by
    intro n b
    have ht : n.val / 1024 < cfg0.N := by rw [hN]; omega
    have hn : 1024 * (n.val / 1024) + n.val % 1024 < 10240 := by omega
    have e : n = ⟨1024 * (n.val / 1024) + n.val % 1024, hn⟩ := Fin.ext (by show n.val = 1024 * (n.val / 1024) + n.val % 1024; omega)
    have h := final m c ⟨n.val / 1024, ht⟩ ⟨n.val % 1024, by omega⟩ b hn
    rw [Cert.TableReference.Reading.read]
    refine (congrArg (fun k => ((dats m 0 c).arrAt 3 cfg0.N : IVec S10240x128 32) (ix2 k b)) e).trans (h.trans ?_)
    unfold block
    refine row_congr _ (funext fun f => ?_) (Fin.ext ?_) ?_ ?_
    · refine (blk0 m c ⟨n.val / 1024, ht⟩ f ⟨512 * (n.val % 1024 / 128) + 32 * (b.val / 8) + n.val % 1024 % 128 / 4, by omega⟩ (by
        show 4096 * (n.val / 1024) + (512 * (n.val % 1024 / 128) + 32 * (b.val / 8) + n.val % 1024 % 128 / 4) < 40960; omega)).trans ?_
      refine congrArg (fun k => bytes m c (ix2 k f)) (Fin.ext ?_)
      show 4096 * (n.val / 1024) + (512 * (n.val % 1024 / 128) + 32 * (b.val / 8) + n.val % 1024 % 128 / 4)
        = (2048 * (n.val / 128) + 128 * (b.val / 8) + n.val % 128) / 4
      omega
    · show n.val % 1024 % 128 % 4 = (2048 * (n.val / 128) + 128 * (b.val / 8) + n.val % 128) % 4
      omega
    · refine congrArg BitOps.toBits ((blk1 m c ⟨n.val / 1024, ht⟩ ⟨16 * (n.val % 1024 / 128) + b.val / 8, by omega⟩ ⟨n.val % 1024 % 128, by omega⟩ (by
        show 128 * (128 * (n.val / 1024) + (16 * (n.val % 1024 / 128) + b.val / 8)) + n.val % 1024 % 128 < 163840; omega)).trans ?_)
      refine congrArg (fun k => scales m c (ix1 k)) (Fin.ext ?_)
      show 128 * (128 * (n.val / 1024) + (16 * (n.val % 1024 / 128) + b.val / 8)) + n.val % 1024 % 128
        = 2048 * (n.val / 128) + 128 * (b.val / 8) + n.val % 128
      omega
    · refine congrArg BitOps.toBits ((blk2 m c ⟨n.val / 1024, ht⟩ ⟨16 * (n.val % 1024 / 128) + b.val / 8, by omega⟩ ⟨n.val % 1024 % 128, by omega⟩ (by
        show 128 * (128 * (n.val / 1024) + (16 * (n.val % 1024 / 128) + b.val / 8)) + n.val % 1024 % 128 < 163840; omega)).trans ?_)
      refine congrArg (fun k => offsets m c (ix1 k)) (Fin.ext ?_)
      show 128 * (128 * (n.val / 1024) + (16 * (n.val % 1024 / 128) + b.val / 8)) + n.val % 1024 % 128
        = 2048 * (n.val / 128) + 128 * (b.val / 8) + n.val % 128
      omega
  funext i
  exact (congrArg (fun j => ((dats m 0 c).arrAt 3 cfg0.N : IVec S10240x128 32) j) (eq_ix2 i)).trans
    ((key (i 0) (i 1)).trans (congrArg (fun j => Cert.TableReference.Read.val_main_v36 (F := F) (bytes m c) (offsets m c) (scales m c) j) (eq_ix2 i)).symm)

end Cert.Table.Result

end
-- ==== Proof.lean ====
/-
  THE PROOF of `Cert.Claim` (Defs.lean). The frames of the kernel and of its idealization are the generated ones; the
  reference has no semaphore and its run is the generated one; the rewrites of the idealization are the rule's own
  statements; and the equality of the two results is Proof/Result.lean's `agg_eq` and `grad_eq`. For the table the frames are
  likewise the generated ones, and the equality, word for word, is Proof/TableResult.lean's `table_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Result
public import proofs.«01_k».proof.Proof.Gen.Table
public import proofs.«01_k».proof.Proof.Gen.Table.Skeleton
public import proofs.«01_k».proof.Proof.Gen.Table.Launch
public import proofs.«01_k».proof.Proof.Gen.Table.Points
public import proofs.«01_k».proof.Proof.Gen.Table.Frame
public import proofs.«01_k».proof.Proof.Gen.Table.Value
public import proofs.«01_k».proof.Proof.Gen.TableReference.Run
public import proofs.«01_k».proof.Proof.Gen.TableReference.Read
public import proofs.«01_k».proof.Proof.Gen.TableReference
public import proofs.«01_k».proof.Proof.TableResult
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments and ends with no counter raised: it declares none. -/
theorem frame_r : Cert.quiescent_ReferenceIdeal (hReferenceIdeal := Cert.ReferenceIdeal.Gen.facts) := by
  intro m g _
  exact (θ_run Cert.ReferenceIdeal.defs _ _).mono (fun r h => ⟨fun c => (h c).2.2, sem_eq_zero_of_no_sems (by decide) r.2⟩)
    (Cert.ReferenceIdeal.Value.run (F := Ideal) m g)

/-- The rewrites of the idealization: two rounded halves packed into a word and read back as interleaved rows. -/
theorem preserves : Cert.preserves_Kernel_KernelIdeal :=
  ⟨IdealRules.bf16_pair.packStatement Cert.KernelIdeal.S512x384,
    IdealRules.bf16_pair.statement Cert.KernelIdeal.S1024x384 Cert.KernelIdeal.S512x384⟩

/-- The kernel's two results are the reference's, as extended reals, whenever every packed word is finite. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hX : ∀ (c : Dev Cert.KernelIdeal.nD), ∃ X : Cert.KernelIdeal.S81920x128.Idx → ℝ, ∀ i, (Cert.Result.words m c i : EReal) = ((X i : ℝ) : EReal) :=
    fun c => ⟨fun i => (Cert.Result.real_of_finite _ _ _ (hpre c) i).choose, fun i => (Cert.Result.real_of_finite _ _ _ (hpre c) i).choose_spec⟩
  refine ⟨fun c => Cert.ReferenceIdeal.Read.val_main_v31 (F := Ideal) (Cert.Result.words m c) (Cert.Result.signs m c) (Cert.Result.grads m c),
    fun c => Cert.ReferenceIdeal.Read.val_main_v29 (F := Ideal) (Cert.Result.words m c) (Cert.Result.signs m c), ?_, ?_⟩
  · refine (θ_run Cert.KernelIdeal.defs _ _).mono (fun r h c => ?_) (Cert.KernelIdeal.Value.run_blocks (F := Ideal) m g)
    obtain ⟨X, hx⟩ := hX c
    exact ⟨(h c).1.trans (Cert.Result.grad_eq m c X hx), (h c).2.1.trans (Cert.Result.agg_eq m c X hx), (h c).2.2⟩
  · refine (θ_run Cert.ReferenceIdeal.defs _ _).mono (fun r h c => ?_) (Cert.ReferenceIdeal.Value.run (F := Ideal) m' g')
    obtain ⟨e0, e1, e2⟩ := hagree c
    refine ⟨(h c).1.trans ?_, (h c).2.1.trans ?_, (h c).2.2⟩
    · rw [Cert.ReferenceIdeal.Read.val_main_v31_eq, e0, e1, e2]
    · rw [Cert.ReferenceIdeal.Read.val_main_v29_eq, e0, e1]

/-- The table's reference runs, leaves its arguments and ends with no counter raised: it declares none. -/
theorem frame_tr : Cert.quiescent_TableReference (hTableReference := Cert.TableReference.Gen.facts) := by
  intro m g _
  exact (θ_run Cert.TableReference.defs _ _).mono (fun r h => ⟨fun c => (h c).2, sem_eq_zero_of_no_sems (by decide) r.2⟩)
    (Cert.TableReference.Value.run (F := Bits) m g)

/-- The table the kernel packs is the reference's, bit for bit. -/
theorem bitexact : Cert.bitexact_Table_TableReference (hTable := Cert.Table.Gen.facts)
    (hTableReference := Cert.TableReference.Gen.facts) := by
  intro m g m' g' _ hagree
  refine ⟨fun c => Cert.TableReference.Read.val_main_v36 (F := Bits) (Cert.Table.Result.bytes m c) (Cert.Table.Result.offsets m c)
    (Cert.Table.Result.scales m c), ?_, ?_⟩
  · refine (θ_run Cert.Table.defs _ _).mono (fun r h c => ?_) (Cert.Table.Value.run_blocks (F := Bits) m g)
    exact ⟨(h c).1.trans (Cert.Table.Result.table_eq m c), (h c).2⟩
  · refine (θ_run Cert.TableReference.defs _ _).mono (fun r h c => ?_) (Cert.TableReference.Value.run (F := Bits) m' g')
    obtain ⟨e0, e1, e2⟩ := hagree c
    refine ⟨(h c).1.trans ?_, (h c).2⟩
    rw [Cert.TableReference.Read.val_main_v36_eq, e0, e1, e2]

/-- Everything claimed. -/
theorem claim : Cert.Claim :=
  ⟨Cert.Table.Gen.facts, Cert.TableReference.Gen.facts, Cert.Kernel.Gen.facts, Cert.KernelIdeal.Gen.facts, Cert.ReferenceIdeal.Gen.facts, Cert.Pre_finite.Gen.facts,
    fun m g _ => Cert.Table.Gen.frame m g,
    frame_tr,
    fun m g _ => Cert.Kernel.Gen.frame m g,
    fun m g _ => Cert.KernelIdeal.Gen.frame m g,
    fun m g _ => Cert.KernelIdeal.Gen.frame m g,
    frame_r,
    fun m g _ => frame_r m g trivial,
    bitexact,
    preserves,
    algebraic⟩

end Cert.Proof

end
